-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv_pi" .f32 0x3EA2F983#32 ((Real.pi⁻¹ : ℝ) : EReal)
  ∧ IdealRules.named_const.Statement Cert.KernelIdeal.κ "two_phi_over_pi" .f32 0x3F83D96A#32 (((13573053 / 4194304) * Real.pi⁻¹ : ℝ) : EReal)
  ∧ IdealRules.named_const.Statement Cert.KernelIdeal.κ "inv_scale" .f32 0x3CB504F3#32 (((Real.sqrt 2048)⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_v191) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def holds_KernelIdeal_near_exact_pre_in_range [hKernelIdeal : Cert.KernelIdeal.Facts] [hPre_in_range : Cert.Pre_in_range.Facts] [hPost_near_exact : Cert.Post_near_exact.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ (Cert.Post_near_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (r.2.mem ((c.tc : Thread Cert.KernelIdeal.nD Cert.KernelIdeal.τ).loc Cert.KernelIdeal.main_v4_0)) (r.2.mem ((c.tc : Thread Cert.KernelIdeal.nD Cert.KernelIdeal.τ).loc Cert.KernelIdeal.main_v4_1))).1 = (fun _ => 1#1)
      ∧ (Cert.Post_near_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (r.2.mem ((c.tc : Thread Cert.KernelIdeal.nD Cert.KernelIdeal.τ).loc Cert.KernelIdeal.main_v4_0)) (r.2.mem ((c.tc : Thread Cert.KernelIdeal.nD Cert.KernelIdeal.τ).loc Cert.KernelIdeal.main_v4_1))).2 = (fun _ => 1#1))

def Claim : Prop :=
  ∃ (hKernel : Cert.Kernel.Facts) (hKernelIdeal : Cert.KernelIdeal.Facts) (hReferenceIdeal : Cert.ReferenceIdeal.Facts) (hPre_in_range : Cert.Pre_in_range.Facts) (hPost_near_exact : Cert.Post_near_exact.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
    ∧ holds_KernelIdeal_near_exact_pre_in_range (hKernelIdeal := hKernelIdeal) (hPre_in_range := hPre_in_range) (hPost_near_exact := hPost_near_exact)
-- ==== Post_near_exact.lean ====
abbrev S8192x2048 : Shape := ⟨2, ![8192, 2048]⟩
abbrev S8192 : Shape := ⟨1, ![8192]⟩
abbrev S2048 : Shape := ⟨1, ![2048]⟩
abbrev S_ : Shape := ⟨0, ![]⟩
abbrev S4096 : Shape := ⟨1, ![4096]⟩
abbrev S8192x1 : Shape := ⟨2, ![8192, 1]⟩
abbrev S1x2048 : Shape := ⟨2, ![1, 2048]⟩

class Facts : Prop where
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S8192x1_S8192x2048_0_1 : S8192x1.BroadcastsInDim S8192x2048 (![0, 1] : Fin 2 → Fin S8192x2048.rank)
  reducesTo_S8192x2048_S8192_d1 : S8192x2048.ReducesTo [1] S8192
  h_S_ : 0 < S_.numel
  bcast_S_S8192 : S_.BroadcastsInDim S8192 (![] : Fin 0 → Fin S8192.rank)
  bcast_S_S8192x2048 : S_.BroadcastsInDim S8192x2048 (![] : Fin 0 → Fin S8192x2048.rank)

variable [Facts]

def fn_clip {F : FTy → Type} [FloatOps F] (arg0 : FVec F S8192 .f32) (arg1 : FVec F S_ .f32) (arg2 : FVec F S_ .f32) : FVec F S8192 .f32 :=
  let v0 : FVec F S_ .f32 := id arg1
  let v1 : FVec F S8192 .f32 := broadcastInDim S8192 ![] bcast_S_S8192 v0
  let v2 : FVec F S8192 .f32 := maximumf v1 arg0
  let v3 : FVec F S_ .f32 := id arg2
  let v4 : FVec F S8192 .f32 := broadcastInDim S8192 ![] bcast_S_S8192 v3
  let v5 : FVec F S8192 .f32 := minimumf v4 v2
  v5

def fn_part6 {F : FTy → Type} [FloatOps F] (main_arg12 : FVec F S8192x2048 .f32) (main_arg13 : FVec F S8192x2048 .f32) (main_v90 : FVec F S8192x2048 .f32) (main_v93 : FVec F S8192x2048 .f32) (main_v123 : FVec F S8192x2048 .f32) : IVec S8192x2048 1 × IVec S8192x2048 1 :=
  let main_v124 : FVec F S8192x2048 .f32 := subf main_arg12 main_v90
  let main_v125 : FVec F S8192x2048 .f32 := Host.absf main_v124
  let main_v126 : IVec S8192x2048 1 := cmpf .ole main_v125 main_v123
  let main_v127 : FVec F S8192x2048 .f32 := subf main_arg13 main_v93
  let main_v128 : FVec F S8192x2048 .f32 := Host.absf main_v127
  let main_v129 : IVec S8192x2048 1 := cmpf .ole main_v128 main_v123
  (main_v126, main_v129)

def fn_part5 {F : FTy → Type} [FloatOps F] (main_arg0 : FVec F S8192x2048 .f32) (main_arg1 : FVec F S8192x2048 .f32) (main_arg7 : FVec F S2048 .f32) (main_arg12 : FVec F S8192x2048 .f32) (main_arg13 : FVec F S8192x2048 .f32) (main_v90 : FVec F S8192x2048 .f32) (main_v93 : FVec F S8192x2048 .f32) (main_v102 : FVec F S8192 .f32) (main_v103 : FVec F S_ .f32) (main_cst_14 : FVec F S_ .f32) : IVec S8192x2048 1 × IVec S8192x2048 1 :=
  let main_v104 : FVec F S_ .f32 := addf main_v103 main_cst_14
  let main_cst_15 : FVec F S_ .f32 := constant S_ .f32 0x40000000#32
  let main_v105 : FVec F S8192 .f32 := broadcastInDim S8192 ![] bcast_S_S8192 main_cst_15
  let main_v106 : FVec F S8192 .f32 := Host.divf main_v102 main_v105
  let main_v107 : FVec F S8192 .f32 := broadcastInDim S8192 ![] bcast_S_S8192 main_v104
  let main_v108 : FVec F S8192 .f32 := mulf main_v107 main_v106
  let main_cst_16 : FVec F S_ .f32 := constant S_ .f32 0x3F800000#32
  let main_v109 : FVec F S8192 .f32 := broadcastInDim S8192 ![] bcast_S_S8192 main_cst_16
  let main_v110 : FVec F S8192 .f32 := minimumf main_v108 main_v109
  let main_v111 : FVec F S8192x1 .f32 := broadcastInDim S8192x1 ![0] bcast_S8192_S8192x1_0 main_v110
  let main_v112 : FVec F S8192x2048 .f32 := addf main_arg0 main_arg1
  let main_v113 : FVec F S8192x2048 .f32 := Host.absf main_v112
  let main_v114 : FVec F S2048 .f32 := Host.absf main_arg7
  let main_cst_17 : FVec F S_ .f32 := constant S_ .f32 0x3F800000#32
  let main_v115 : FVec F S2048 .f32 := broadcastInDim S2048 ![] bcast_S_S2048 main_cst_17
  let main_v116 : FVec F S2048 .f32 := addf main_v115 main_v114
  let main_v117 : FVec F S1x2048 .f32 := broadcastInDim S1x2048 ![1] bcast_S2048_S1x2048_1 main_v116
  let main_v118 : FVec F S8192x2048 .f32 := broadcastInDim S8192x2048 ![0, 1] bcast_S1x2048_S8192x2048_0_1 main_v117
  let main_v119 : FVec F S8192x2048 .f32 := Host.divf main_v113 main_v118
  let main_v120 : FVec F S8192x2048 .f32 := broadcastInDim S8192x2048 ![0, 1] bcast_S8192x1_S8192x2048_0_1 main_v111
  let main_v121 : FVec F S8192x2048 .f32 := mulf main_v120 main_v119
  let main_cst_18 : FVec F S_ .f32 := constant S_ .f32 0x3A83126F#32
  let main_v122 : FVec F S8192x2048 .f32 := broadcastInDim S8192x2048 ![] bcast_S_S8192x2048 main_cst_18
  let main_v123 : FVec F S8192x2048 .f32 := addf main_v122 main_v121
  fn_part6 (F := F) main_arg12 main_arg13 main_v90 main_v93 main_v123

def fn_part4 {F : FTy → Type} [FloatOps F] (main_arg0 : FVec F S8192x2048 .f32) (main_arg1 : FVec F S8192x2048 .f32) (main_arg7 : FVec F S2048 .f32) (main_arg9 : FVec F S_ .f32) (main_arg12 : FVec F S8192x2048 .f32) (main_arg13 : FVec F S8192x2048 .f32) (main_v75 : FVec F S8192x2048 .f32) (main_v83 : FVec F S8192x2048 .f32) : IVec S8192x2048 1 × IVec S8192x2048 1 :=
  let main_v84 : FVec F S8192x2048 .f32 := Host.sin main_v75
  let main_v85 : FVec F S8192x2048 .f32 := Host.cos main_v75
  let main_v86 : FVec F S8192x2048 .f32 := Host.sin main_v83
  let main_v87 : FVec F S8192x2048 .f32 := Host.cos main_v83
  let main_v88 : FVec F S8192x2048 .f32 := mulf main_v85 main_v87
  let main_v89 : FVec F S8192x2048 .f32 := mulf main_v84 main_v86
  let main_v90 : FVec F S8192x2048 .f32 := subf main_v88 main_v89
  let main_v91 : FVec F S8192x2048 .f32 := mulf main_v85 main_v86
  let main_v92 : FVec F S8192x2048 .f32 := mulf main_v84 main_v87
  let main_v93 : FVec F S8192x2048 .f32 := addf main_v91 main_v92
  let main_v94 : FVec F S8192x2048 .f32 := Host.absf main_arg0
  let main_v95 : FVec F S8192x2048 .f32 := Host.absf main_arg1
  let main_v96 : FVec F S8192x2048 .f32 := addf main_v94 main_v95
  let main_cst_11 : FVec F S_ .f32 := constant S_ .f32 0x00000000#32
  let main_v97 : FVec F S8192 .f32 := (fun x v => Host.reduceAdd x v reducesTo_S8192x2048_S8192_d1 h_S_) main_v96 main_cst_11
  let main_cst_12 : FVec F S_ .f32 := constant S_ .f32 0x3A83126F#32
  let main_v98 : FVec F S8192 .f32 := broadcastInDim S8192 ![] bcast_S_S8192 main_cst_12
  let main_v99 : FVec F S8192 .f32 := mulf main_v98 main_v97
  let main_cst_13 : FVec F S_ .f32 := constant S_ .f32 0x45000000#32
  let main_v100 : FVec F S_ .f32 := Host.sqrt main_cst_13
  let main_v101 : FVec F S8192 .f32 := broadcastInDim S8192 ![] bcast_S_S8192 main_v100
  let main_v102 : FVec F S8192 .f32 := Host.divf main_v99 main_v101
  let main_v103 : FVec F S_ .f32 := Host.absf main_arg9
  let main_cst_14 : FVec F S_ .f32 := constant S_ .f32 0x3DCCCCCD#32
  fn_part5 (F := F) main_arg0 main_arg1 main_arg7 main_arg12 main_arg13 main_v90 main_v93 main_v102 main_v103 main_cst_14

def fn_part3 {F : FTy → Type} [FloatOps F] (main_arg0 : FVec F S8192x2048 .f32) (main_arg1 : FVec F S8192x2048 .f32) (main_arg4 : FVec F S8192x2048 .f32) (main_arg7 : FVec F S2048 .f32) (main_arg8 : FVec F S2048 .f32) (main_arg9 : FVec F S_ .f32) (main_arg12 : FVec F S8192x2048 .f32) (main_arg13 : FVec F S8192x2048 .f32) (main_v3 : FVec F S8192x1 .f32) (main_v50 : FVec F S8192x1 .f32) (main_v57 : FVec F S8192x2048 .f32) (main_v59 : FVec F S8192x2048 .f32) (main_v60 : FVec F S8192x1 .f32) : IVec S8192x2048 1 × IVec S8192x2048 1 :=
  let main_v61 : FVec F S8192x1 .f32 := subf main_v60 main_v50
  let main_v62 : FVec F S8192x2048 .f32 := broadcastInDim S8192x2048 ![0, 1] bcast_S8192x1_S8192x2048_0_1 main_v61
  let main_v63 : FVec F S8192x2048 .f32 := mulf main_v62 main_arg4
  let main_v64 : FVec F S8192x2048 .f32 := addf main_v59 main_v63
  let main_v65 : FVec F S2048 .f32 := Host.absf main_arg7
  let main_cst_10 : FVec F S_ .f32 := constant S_ .f32 0x3F800000#32
  let main_v66 : FVec F S2048 .f32 := broadcastInDim S2048 ![] bcast_S_S2048 main_cst_10
  let main_v67 : FVec F S2048 .f32 := addf main_v66 main_v65
  let main_v68 : FVec F S1x2048 .f32 := broadcastInDim S1x2048 ![1] bcast_S2048_S1x2048_1 main_v67
  let main_v69 : FVec F S8192x2048 .f32 := broadcastInDim S8192x2048 ![0, 1] bcast_S1x2048_S8192x2048_0_1 main_v68
  let main_v70 : FVec F S8192x2048 .f32 := Host.divf main_v57 main_v69
  let main_v71 : FVec F S1x2048 .f32 := broadcastInDim S1x2048 ![1] bcast_S2048_S1x2048_1 main_arg8
  let main_v72 : FVec F S8192x2048 .f32 := broadcastInDim S8192x2048 ![0, 1] bcast_S1x2048_S8192x2048_0_1 main_v71
  let main_v73 : FVec F S8192x2048 .f32 := addf main_v70 main_v72
  let main_v74 : FVec F S8192x2048 .f32 := broadcastInDim S8192x2048 ![0, 1] bcast_S8192x1_S8192x2048_0_1 main_v3
  let main_v75 : FVec F S8192x2048 .f32 := addf main_v73 main_v74
  let main_v76 : FVec F S1x2048 .f32 := broadcastInDim S1x2048 ![1] bcast_S2048_S1x2048_1 main_v67
  let main_v77 : FVec F S8192x2048 .f32 := broadcastInDim S8192x2048 ![0, 1] bcast_S1x2048_S8192x2048_0_1 main_v76
  let main_v78 : FVec F S8192x2048 .f32 := Host.divf main_v64 main_v77
  let main_v79 : FVec F S1x2048 .f32 := broadcastInDim S1x2048 ![1] bcast_S2048_S1x2048_1 main_arg8
  let main_v80 : FVec F S8192x2048 .f32 := broadcastInDim S8192x2048 ![0, 1] bcast_S1x2048_S8192x2048_0_1 main_v79
  let main_v81 : FVec F S8192x2048 .f32 := addf main_v78 main_v80
  let main_v82 : FVec F S8192x2048 .f32 := broadcastInDim S8192x2048 ![0, 1] bcast_S8192x1_S8192x2048_0_1 main_v3
  let main_v83 : FVec F S8192x2048 .f32 := addf main_v81 main_v82
  fn_part4 (F := F) main_arg0 main_arg1 main_arg7 main_arg9 main_arg12 main_arg13 main_v75 main_v83

def fn_part2 {F : FTy → Type} [FloatOps F] (main_arg0 : FVec F S8192x2048 .f32) (main_arg1 : FVec F S8192x2048 .f32) (main_arg3 : FVec F S8192x2048 .f32) (main_arg4 : FVec F S8192x2048 .f32) (main_arg7 : FVec F S2048 .f32) (main_arg8 : FVec F S2048 .f32) (main_arg9 : FVec F S_ .f32) (main_arg12 : FVec F S8192x2048 .f32) (main_arg13 : FVec F S8192x2048 .f32) (main_v3 : FVec F S8192x1 .f32) (main_v39 : FVec F S8192 .f32) (main_v40 : FVec F S8192 .f32) : IVec S8192x2048 1 × IVec S8192x2048 1 :=
  let main_v41 : FVec F S8192 .f32 := subf main_v40 main_v39
  let main_cst_6 : FVec F S_ .f32 := constant S_ .f32 0x40000000#32
  let main_v42 : FVec F S8192 .f32 := broadcastInDim S8192 ![] bcast_S_S8192 main_cst_6
  let main_v43 : FVec F S8192 .f32 := Host.divf main_v41 main_v42
  let main_v44 : FVec F S_ .f32 := Host.absf main_arg9
  let main_cst_7 : FVec F S_ .f32 := constant S_ .f32 0x3DCCCCCD#32
  let main_v45 : FVec F S_ .f32 := addf main_v44 main_cst_7
  let main_v46 : FVec F S_ .f32 := Host.negf main_v45
  let main_v47 : FVec F S8192 .f32 := broadcastInDim S8192 ![] bcast_S_S8192 main_v46
  let main_v48 : FVec F S8192 .f32 := mulf main_v47 main_v43
  let main_v49 : FVec F S8192 .f32 := Host.exp main_v48
  let main_v50 : FVec F S8192x1 .f32 := broadcastInDim S8192x1 ![0] bcast_S8192_S8192x1_0 main_v49
  let main_v51 : FVec F S8192x2048 .f32 := broadcastInDim S8192x2048 ![0, 1] bcast_S8192x1_S8192x2048_0_1 main_v50
  let main_v52 : FVec F S8192x2048 .f32 := mulf main_v51 main_arg0
  let main_cst_8 : FVec F S_ .f32 := constant S_ .f32 0x3F800000#32
  let main_v53 : FVec F S8192x1 .f32 := broadcastInDim S8192x1 ![] bcast_S_S8192x1 main_cst_8
  let main_v54 : FVec F S8192x1 .f32 := subf main_v53 main_v50
  let main_v55 : FVec F S8192x2048 .f32 := broadcastInDim S8192x2048 ![0, 1] bcast_S8192x1_S8192x2048_0_1 main_v54
  let main_v56 : FVec F S8192x2048 .f32 := mulf main_v55 main_arg3
  let main_v57 : FVec F S8192x2048 .f32 := addf main_v52 main_v56
  let main_v58 : FVec F S8192x2048 .f32 := broadcastInDim S8192x2048 ![0, 1] bcast_S8192x1_S8192x2048_0_1 main_v50
  let main_v59 : FVec F S8192x2048 .f32 := mulf main_v58 main_arg1
  let main_cst_9 : FVec F S_ .f32 := constant S_ .f32 0x3F800000#32
  let main_v60 : FVec F S8192x1 .f32 := broadcastInDim S8192x1 ![] bcast_S_S8192x1 main_cst_9
  fn_part3 (F := F) main_arg0 main_arg1 main_arg4 main_arg7 main_arg8 main_arg9 main_arg12 main_arg13 main_v3 main_v50 main_v57 main_v59 main_v60

def fn_part1 {F : FTy → Type} [FloatOps F] (main_arg0 : FVec F S8192x2048 .f32) (main_arg1 : FVec F S8192x2048 .f32) (main_arg3 : FVec F S8192x2048 .f32) (main_arg4 : FVec F S8192x2048 .f32) (main_arg7 : FVec F S2048 .f32) (main_arg8 : FVec F S2048 .f32) (main_arg9 : FVec F S_ .f32) (main_arg12 : FVec F S8192x2048 .f32) (main_arg13 : FVec F S8192x2048 .f32) (main_v0 : FVec F S_ .f32) (main_v3 : FVec F S8192x1 .f32) (main_v14 : FVec F S8192x2048 .f32) (main_v20 : FVec F S8192x2048 .f32) : IVec S8192x2048 1 × IVec S8192x2048 1 :=
  let main_v21 : FVec F S8192x2048 .f32 := broadcastInDim S8192x2048 ![0, 1] bcast_S8192x1_S8192x2048_0_1 main_v3
  let main_v22 : FVec F S8192x2048 .f32 := addf main_v20 main_v21
  let main_v23 : FVec F S8192x2048 .f32 := Host.sin main_v14
  let main_v24 : FVec F S8192x2048 .f32 := Host.cos main_v14
  let main_v25 : FVec F S8192x2048 .f32 := Host.sin main_v22
  let main_v26 : FVec F S8192x2048 .f32 := Host.cos main_v22
  let main_v27 : FVec F S8192x2048 .f32 := mulf main_v24 main_v26
  let main_v28 : FVec F S8192x2048 .f32 := mulf main_v23 main_v25
  let main_v29 : FVec F S8192x2048 .f32 := subf main_v27 main_v28
  let main_v30 : FVec F S8192x2048 .f32 := mulf main_v24 main_v25
  let main_v31 : FVec F S8192x2048 .f32 := mulf main_v23 main_v26
  let main_v32 : FVec F S8192x2048 .f32 := addf main_v30 main_v31
  let main_v33 : FVec F S8192x2048 .f32 := mulf main_v29 main_arg0
  let main_v34 : FVec F S8192x2048 .f32 := mulf main_v32 main_arg1
  let main_v35 : FVec F S8192x2048 .f32 := addf main_v33 main_v34
  let main_cst_2 : FVec F S_ .f32 := constant S_ .f32 0x00000000#32
  let main_v36 : FVec F S8192 .f32 := (fun x v => Host.reduceAdd x v reducesTo_S8192x2048_S8192_d1 h_S_) main_v35 main_cst_2
  let main_v37 : FVec F S8192 .f32 := broadcastInDim S8192 ![] bcast_S_S8192 main_v0
  let main_v38 : FVec F S8192 .f32 := Host.divf main_v36 main_v37
  let main_cst_3 : FVec F S_ .f32 := constant S_ .f32 0xBF800000#32
  let main_cst_4 : FVec F S_ .f32 := constant S_ .f32 0x3F800000#32
  let main_v39 : FVec F S8192 .f32 := fn_clip (F := F) main_v38 main_cst_3 main_cst_4
  let main_cst_5 : FVec F S_ .f32 := constant S_ .f32 0x3F800000#32
  let main_v40 : FVec F S8192 .f32 := broadcastInDim S8192 ![] bcast_S_S8192 main_cst_5
  fn_part2 (F := F) main_arg0 main_arg1 main_arg3 main_arg4 main_arg7 main_arg8 main_arg9 main_arg12 main_arg13 main_v3 main_v39 main_v40

def fn {F : FTy → Type} [FloatOps F] (main_arg0 : FVec F S8192x2048 .f32) (main_arg1 : FVec F S8192x2048 .f32) (main_arg2 : FVec F S8192 .f32) (main_arg3 : FVec F S8192x2048 .f32) (main_arg4 : FVec F S8192x2048 .f32) (main_arg5 : FVec F S2048 .f32) (main_arg6 : FVec F S2048 .f32) (main_arg7 : FVec F S2048 .f32) (main_arg8 : FVec F S2048 .f32) (main_arg9 : FVec F S_ .f32) (main_arg10 : FVec F S4096 .f32) (main_arg11 : FVec F S4096 .f32) (main_arg12 : FVec F S8192x2048 .f32) (main_arg13 : FVec F S8192x2048 .f32) : IVec S8192x2048 1 × IVec S8192x2048 1 :=
  let main_cst : FVec F S_ .f32 := constant S_ .f32 0x45000000#32
  let main_v0 : FVec F S_ .f32 := Host.sqrt main_cst
  let main_v1 : FVec F S8192x1 .f32 := broadcastInDim S8192x1 ![0] bcast_S8192_S8192x1_0 main_arg2
  let main_cst_0 : FVec F S_ .f32 := constant S_ .f32 0x3FCF1BBD#32
  let main_v2 : FVec F S8192x1 .f32 := broadcastInDim S8192x1 ![] bcast_S_S8192x1 main_cst_0
  let main_v3 : FVec F S8192x1 .f32 := mulf main_v1 main_v2
  let main_v4 : FVec F S2048 .f32 := Host.absf main_arg5
  let main_cst_1 : FVec F S_ .f32 := constant S_ .f32 0x3F800000#32
  let main_v5 : FVec F S2048 .f32 := broadcastInDim S2048 ![] bcast_S_S2048 main_cst_1
  let main_v6 : FVec F S2048 .f32 := addf main_v5 main_v4
  let main_v7 : FVec F S1x2048 .f32 := broadcastInDim S1x2048 ![1] bcast_S2048_S1x2048_1 main_v6
  let main_v8 : FVec F S8192x2048 .f32 := broadcastInDim S8192x2048 ![0, 1] bcast_S1x2048_S8192x2048_0_1 main_v7
  let main_v9 : FVec F S8192x2048 .f32 := Host.divf main_arg0 main_v8
  let main_v10 : FVec F S1x2048 .f32 := broadcastInDim S1x2048 ![1] bcast_S2048_S1x2048_1 main_arg6
  let main_v11 : FVec F S8192x2048 .f32 := broadcastInDim S8192x2048 ![0, 1] bcast_S1x2048_S8192x2048_0_1 main_v10
  let main_v12 : FVec F S8192x2048 .f32 := addf main_v9 main_v11
  let main_v13 : FVec F S8192x2048 .f32 := broadcastInDim S8192x2048 ![0, 1] bcast_S8192x1_S8192x2048_0_1 main_v3
  let main_v14 : FVec F S8192x2048 .f32 := addf main_v12 main_v13
  let main_v15 : FVec F S1x2048 .f32 := broadcastInDim S1x2048 ![1] bcast_S2048_S1x2048_1 main_v6
  let main_v16 : FVec F S8192x2048 .f32 := broadcastInDim S8192x2048 ![0, 1] bcast_S1x2048_S8192x2048_0_1 main_v15
  let main_v17 : FVec F S8192x2048 .f32 := Host.divf main_arg1 main_v16
  let main_v18 : FVec F S1x2048 .f32 := broadcastInDim S1x2048 ![1] bcast_S2048_S1x2048_1 main_arg6
  let main_v19 : FVec F S8192x2048 .f32 := broadcastInDim S8192x2048 ![0, 1] bcast_S1x2048_S8192x2048_0_1 main_v18
  let main_v20 : FVec F S8192x2048 .f32 := addf main_v17 main_v19
  fn_part1 (F := F) main_arg0 main_arg1 main_arg3 main_arg4 main_arg7 main_arg8 main_arg9 main_arg12 main_arg13 main_v0 main_v3 main_v14 main_v20
-- ==== Pre_in_range.lean ====
abbrev S8192x2048 : Shape := ⟨2, ![8192, 2048]⟩
abbrev S8192 : Shape := ⟨1, ![8192]⟩
abbrev S2048 : Shape := ⟨1, ![2048]⟩
abbrev S_ : Shape := ⟨0, ![]⟩
abbrev S4096 : Shape := ⟨1, ![4096]⟩

class Facts : Prop where
  bcast_S_S8192x2048 : S_.BroadcastsInDim S8192x2048 (![] : Fin 0 → Fin S8192x2048.rank)
  bcast_S_S8192 : S_.BroadcastsInDim S8192 (![] : Fin 0 → Fin S8192.rank)
  bcast_S_S2048 : S_.BroadcastsInDim S2048 (![] : Fin 0 → Fin S2048.rank)

variable [Facts]

def fn {F : FTy → Type} [FloatOps F] (main_arg0 : FVec F S8192x2048 .f32) (main_arg1 : FVec F S8192x2048 .f32) (main_arg2 : FVec F S8192 .f32) (main_arg3 : FVec F S8192x2048 .f32) (main_arg4 : FVec F S8192x2048 .f32) (main_arg5 : FVec F S2048 .f32) (main_arg6 : FVec F S2048 .f32) (main_arg7 : FVec F S2048 .f32) (main_arg8 : FVec F S2048 .f32) (main_arg9 : FVec F S_ .f32) (main_arg10 : FVec F S4096 .f32) (main_arg11 : FVec F S4096 .f32) : IVec S8192x2048 1 × IVec S8192x2048 1 × IVec S8192 1 × IVec S8192x2048 1 × IVec S8192x2048 1 × IVec S2048 1 × IVec S2048 1 :=
  let main_v0 : FVec F S8192x2048 .f32 := Host.absf main_arg0
  let main_cst : FVec F S_ .f32 := constant S_ .f32 0x4E6E6B28#32
  let main_v1 : FVec F S8192x2048 .f32 := broadcastInDim S8192x2048 ![] bcast_S_S8192x2048 main_cst
  let main_v2 : IVec S8192x2048 1 := cmpf .ole main_v0 main_v1
  let main_v3 : FVec F S8192x2048 .f32 := Host.absf main_arg1
  let main_cst_0 : FVec F S_ .f32 := constant S_ .f32 0x4E6E6B28#32
  let main_v4 : FVec F S8192x2048 .f32 := broadcastInDim S8192x2048 ![] bcast_S_S8192x2048 main_cst_0
  let main_v5 : IVec S8192x2048 1 := cmpf .ole main_v3 main_v4
  let main_v6 : FVec F S8192 .f32 := Host.absf main_arg2
  let main_cst_1 : FVec F S_ .f32 := constant S_ .f32 0x4E6E6B28#32
  let main_v7 : FVec F S8192 .f32 := broadcastInDim S8192 ![] bcast_S_S8192 main_cst_1
  let main_v8 : IVec S8192 1 := cmpf .ole main_v6 main_v7
  let main_cst_2 : FVec F S_ .f32 := constant S_ .f32 0x00000000#32
  let main_v9 : FVec F S8192x2048 .f32 := broadcastInDim S8192x2048 ![] bcast_S_S8192x2048 main_cst_2
  let main_v10 : IVec S8192x2048 1 := cmpf .oeq main_arg3 main_v9
  let main_cst_3 : FVec F S_ .f32 := constant S_ .f32 0x00000000#32
  let main_v11 : FVec F S8192x2048 .f32 := broadcastInDim S8192x2048 ![] bcast_S_S8192x2048 main_cst_3
  let main_v12 : IVec S8192x2048 1 := cmpf .oeq main_arg4 main_v11
  let main_cst_4 : FVec F S_ .f32 := constant S_ .f32 0x00000000#32
  let main_v13 : FVec F S2048 .f32 := broadcastInDim S2048 ![] bcast_S_S2048 main_cst_4
  let main_v14 : IVec S2048 1 := cmpf .oeq main_arg6 main_v13
  let main_cst_5 : FVec F S_ .f32 := constant S_ .f32 0x00000000#32
  let main_v15 : FVec F S2048 .f32 := broadcastInDim S2048 ![] bcast_S_S2048 main_cst_5
  let main_v16 : IVec S2048 1 := cmpf .oeq main_arg8 main_v15
  (main_v2, main_v5, main_v8, main_v10, main_v12, main_v14, main_v16)
-- ==== Kernel.lean ====
abbrev S8192x2048 : Shape := ⟨2, ![8192, 2048]⟩
abbrev S8192 : Shape := ⟨1, ![8192]⟩
abbrev S2048 : Shape := ⟨1, ![2048]⟩
abbrev S_ : Shape := ⟨0, ![]⟩
abbrev S4096 : Shape := ⟨1, ![4096]⟩
abbrev S1x2048 : Shape := ⟨2, ![1, 2048]⟩
abbrev S1 : Shape := ⟨1, ![1]⟩
abbrev S8192x1 : Shape := ⟨2, ![8192, 1]⟩
abbrev S512x1 : Shape := ⟨2, ![512, 1]⟩
abbrev S512x2048 : Shape := ⟨2, ![512, 2048]⟩
abbrev S8x2048 : Shape := ⟨2, ![8, 2048]⟩
abbrev S8x1 : Shape := ⟨2, ![8, 1]⟩
abbrev S8 : Shape := ⟨1, ![8]⟩

abbrev nBuf : Space → Nat
  | .hbm => 18
  | .vmem => 12
  | .smem => 1
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192, .f32⟩
  | .hbm, ⟨3, _⟩ => ⟨S8192x2048, .f32⟩
  | .hbm, ⟨4, _⟩ => ⟨S8192x2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S1x2048, .f32⟩
  | .hbm, ⟨13, _⟩ => ⟨S1x2048, .f32⟩
  | .hbm, ⟨14, _⟩ => ⟨S1, .f32⟩
  | .hbm, ⟨15, _⟩ => ⟨S8192x1, .f32⟩
  | .hbm, ⟨16, _⟩ => ⟨S8192x2048, .f32⟩
  | .hbm, ⟨17, _⟩ => ⟨S8192x2048, .f32⟩
  | .local _ .vmem, ⟨0, _⟩ => ⟨S512x1, .f32⟩
  | .local _ .vmem, ⟨1, _⟩ => ⟨S512x1, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .smem, ⟨0, _⟩ => ⟨S1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "inv_pi" => some ((Real.pi⁻¹ : ℝ) : EReal)
  | "inv_scale" => some (((Real.sqrt 2048)⁻¹ : ℝ) : EReal)
  | "two_phi_over_pi" => some (((13573053 / 4194304) * Real.pi⁻¹ : ℝ) : EReal)
  | _ => none
-- ==== ReferenceIdeal.lean ====
abbrev S8192x2048 : Shape := ⟨2, ![8192, 2048]⟩
abbrev S8192 : Shape := ⟨1, ![8192]⟩
abbrev S2048 : Shape := ⟨1, ![2048]⟩
abbrev S_ : Shape := ⟨0, ![]⟩
abbrev S4096 : Shape := ⟨1, ![4096]⟩
abbrev S8192x1 : Shape := ⟨2, ![8192, 1]⟩
abbrev S1x2048 : Shape := ⟨2, ![1, 2048]⟩

abbrev nBuf : Space → Nat
  | .hbm => 253
  | .vmem => 0
  | .smem => 0
  | _ => 0

abbrev hbmTy0_0 (i : Nat) : BufTy := match i % 128 with
  | 0 => ⟨S8192x2048, .f32⟩
  | 1 => ⟨S8192x2048, .f32⟩
  | 2 => ⟨S8192, .f32⟩
  | 3 => ⟨S8192x2048, .f32⟩
  | 4 => ⟨S8192x2048, .f32⟩
  | 5 => ⟨S2048, .f32⟩
  | 6 => ⟨S2048, .f32⟩
  | 7 => ⟨S2048, .f32⟩
  | 8 => ⟨S2048, .f32⟩
  | 9 => ⟨S_, .f32⟩
  | 10 => ⟨S4096, .f32⟩
  | 11 => ⟨S4096, .f32⟩
  | 12 => ⟨S_, .f32⟩
  | 13 => ⟨S_, .f32⟩
  | 14 => ⟨S8192x1, .f32⟩
  | 15 => ⟨S_, .f32⟩
  | 16 => ⟨S8192x1, .f32⟩
  | 17 => ⟨S8192x1, .f32⟩
  | 18 => ⟨S2048, .f32⟩
  | 19 => ⟨S_, .f32⟩
  | 20 => ⟨S2048, .f32⟩
  | 21 => ⟨S2048, .f32⟩
  | 22 => ⟨S1x2048, .f32⟩
  | 23 => ⟨S8192x2048, .f32⟩
  | 24 => ⟨S8192x2048, .f32⟩
  | 25 => ⟨S1x2048, .f32⟩
  | 26 => ⟨S8192x2048, .f32⟩
  | 27 => ⟨S8192x2048, .f32⟩
  | 28 => ⟨S8192x2048, .f32⟩
  | 29 => ⟨S8192x2048, .f32⟩
  | 30 => ⟨S1x2048, .f32⟩
  | 31 => ⟨S8192x2048, .f32⟩
  | 32 => ⟨S8192x2048, .f32⟩
  | 33 => ⟨S1x2048, .f32⟩
  | 34 => ⟨S8192x2048, .f32⟩
  | 35 => ⟨S8192x2048, .f32⟩
  | 36 => ⟨S8192x2048, .f32⟩
  | 37 => ⟨S8192x2048, .f32⟩
  | 38 => ⟨S8192x2048, .f32⟩
  | 39 => ⟨S_, .f32⟩
  | 40 => ⟨S_, .f32⟩
  | 41 => ⟨S_, .f32⟩
  | 42 => ⟨S8192x2048, .f32⟩
  | 43 => ⟨S8192x2048, .f32⟩
  | 44 => ⟨S8192x2048, .f32⟩
  | 45 => ⟨S8192x2048, .f32⟩
  | 46 => ⟨S_, .f32⟩
  | 47 => ⟨S8192x2048, .f32⟩
  | 48 => ⟨S8192x2048, .f32⟩
  | 49 => ⟨S8192x2048, .f32⟩
  | 50 => ⟨S_, .f32⟩
  | 51 => ⟨S8192x2048, .f32⟩
  | 52 => ⟨S8192x2048, .f32⟩
  | 53 => ⟨S8192x2048, .f32⟩
  | 54 => ⟨S_, .f32⟩
  | 55 => ⟨S8192x2048, .f32⟩
  | 56 => ⟨S8192x2048, .f32⟩
  | 57 => ⟨S_, .f32⟩
  | 58 => ⟨S8192x2048, .f32⟩
  | 59 => ⟨S8192x2048, .f32⟩
  | 60 => ⟨S8192x2048, .f32⟩
  | 61 => ⟨S_, .f32⟩
  | 62 => ⟨S8192x2048, .f32⟩
  | 63 => ⟨S8192x2048, .f32⟩
  | 64 => ⟨S_, .f32⟩
  | 65 => ⟨S8192x2048, .f32⟩
  | 66 => ⟨S8192x2048, .f32⟩
  | 67 => ⟨S8192x2048, .f32⟩
  | 68 => ⟨S8192x2048, .f32⟩
  | 69 => ⟨S_, .f32⟩
  | 70 => ⟨S8192x2048, .f32⟩
  | 71 => ⟨S8192x2048, .f32⟩
  | 72 => ⟨S8192x2048, .f32⟩
  | 73 => ⟨S8192x2048, .f32⟩
  | 74 => ⟨S8192x2048, .f32⟩
  | 75 => ⟨S_, .f32⟩
  | 76 => ⟨S_, .f32⟩
  | 77 => ⟨S_, .f32⟩
  | 78 => ⟨S8192x2048, .f32⟩
  | 79 => ⟨S8192x2048, .f32⟩
  | 80 => ⟨S8192x2048, .f32⟩
  | 81 => ⟨S8192x2048, .f32⟩
  | 82 => ⟨S_, .f32⟩
  | 83 => ⟨S8192x2048, .f32⟩
  | 84 => ⟨S8192x2048, .f32⟩
  | 85 => ⟨S8192x2048, .f32⟩
  | 86 => ⟨S_, .f32⟩
  | 87 => ⟨S8192x2048, .f32⟩
  | 88 => ⟨S8192x2048, .f32⟩
  | 89 => ⟨S8192x2048, .f32⟩
  | 90 => ⟨S_, .f32⟩
  | 91 => ⟨S8192x2048, .f32⟩
  | 92 => ⟨S8192x2048, .f32⟩
  | 93 => ⟨S_, .f32⟩
  | 94 => ⟨S8192x2048, .f32⟩
  | 95 => ⟨S8192x2048, .f32⟩
  | 96 => ⟨S_, .f32⟩
  | 97 => ⟨S8192x2048, .f32⟩
  | 98 => ⟨S8192x2048, .f32⟩
  | 99 => ⟨S8192x2048, .f32⟩
  | 100 => ⟨S8192x2048, .f32⟩
  | 101 => ⟨S_, .f32⟩
  | 102 => ⟨S8192x2048, .f32⟩
  | 103 => ⟨S8192x2048, .f32⟩
  | 104 => ⟨S8192x2048, .f32⟩
  | 105 => ⟨S8192x2048, .f32⟩
  | 106 => ⟨S8192x2048, .f32⟩
  | 107 => ⟨S8192x2048, .f32⟩
  | 108 => ⟨S_, .f32⟩
  | 109 => ⟨S8192x2048, .f32⟩
  | 110 => ⟨S8192x2048, .f32⟩
  | 111 => ⟨S8192x2048, .f32⟩
  | 112 => ⟨S8192x2048, .f32⟩
  | 113 => ⟨S8192x2048, .f32⟩
  | 114 => ⟨S8192x2048, .f32⟩
  | 115 => ⟨S8192x2048, .f32⟩
  | 116 => ⟨S_, .f32⟩
  | 117 => ⟨S8192, .f32⟩
  | 118 => ⟨S8192, .f32⟩
  | 119 => ⟨S8192, .f32⟩
  | 120 => ⟨S_, .f32⟩
  | 121 => ⟨S_, .f32⟩
  | 122 => ⟨S_, .f32⟩
  | 123 => ⟨S8192, .f32⟩
  | 124 => ⟨S8192, .f32⟩
  | 125 => ⟨S_, .f32⟩
  | 126 => ⟨S8192, .f32⟩
  | 127 => ⟨S8192, .f32⟩
  | _ => ⟨S8192x2048, .f32⟩

abbrev hbmTy0_1 (i : Nat) : BufTy := match i % 128 with
  | 0 => ⟨S_, .f32⟩
  | 1 => ⟨S8192, .f32⟩
  | 2 => ⟨S8192, .f32⟩
  | 3 => ⟨S_, .f32⟩
  | 4 => ⟨S8192, .f32⟩
  | 5 => ⟨S8192, .f32⟩
  | 6 => ⟨S_, .f32⟩
  | 7 => ⟨S_, .f32⟩
  | 8 => ⟨S_, .f32⟩
  | 9 => ⟨S_, .f32⟩
  | 10 => ⟨S8192, .f32⟩
  | 11 => ⟨S8192, .f32⟩
  | 12 => ⟨S8192, .f32⟩
  | 13 => ⟨S8192x1, .f32⟩
  | 14 => ⟨S8192x2048, .f32⟩
  | 15 => ⟨S8192x2048, .f32⟩
  | 16 => ⟨S_, .f32⟩
  | 17 => ⟨S8192x1, .f32⟩
  | 18 => ⟨S8192x1, .f32⟩
  | 19 => ⟨S8192x2048, .f32⟩
  | 20 => ⟨S8192x2048, .f32⟩
  | 21 => ⟨S8192x2048, .f32⟩
  | 22 => ⟨S8192x2048, .f32⟩
  | 23 => ⟨S8192x2048, .f32⟩
  | 24 => ⟨S_, .f32⟩
  | 25 => ⟨S8192x1, .f32⟩
  | 26 => ⟨S8192x1, .f32⟩
  | 27 => ⟨S8192x2048, .f32⟩
  | 28 => ⟨S8192x2048, .f32⟩
  | 29 => ⟨S8192x2048, .f32⟩
  | 30 => ⟨S2048, .f32⟩
  | 31 => ⟨S_, .f32⟩
  | 32 => ⟨S2048, .f32⟩
  | 33 => ⟨S2048, .f32⟩
  | 34 => ⟨S1x2048, .f32⟩
  | 35 => ⟨S8192x2048, .f32⟩
  | 36 => ⟨S8192x2048, .f32⟩
  | 37 => ⟨S1x2048, .f32⟩
  | 38 => ⟨S8192x2048, .f32⟩
  | 39 => ⟨S8192x2048, .f32⟩
  | 40 => ⟨S8192x2048, .f32⟩
  | 41 => ⟨S8192x2048, .f32⟩
  | 42 => ⟨S1x2048, .f32⟩
  | 43 => ⟨S8192x2048, .f32⟩
  | 44 => ⟨S8192x2048, .f32⟩
  | 45 => ⟨S1x2048, .f32⟩
  | 46 => ⟨S8192x2048, .f32⟩
  | 47 => ⟨S8192x2048, .f32⟩
  | 48 => ⟨S8192x2048, .f32⟩
  | 49 => ⟨S8192x2048, .f32⟩
  | 50 => ⟨S8192x2048, .f32⟩
  | 51 => ⟨S_, .f32⟩
  | 52 => ⟨S_, .f32⟩
  | 53 => ⟨S_, .f32⟩
  | 54 => ⟨S8192x2048, .f32⟩
  | 55 => ⟨S8192x2048, .f32⟩
  | 56 => ⟨S8192x2048, .f32⟩
  | 57 => ⟨S8192x2048, .f32⟩
  | 58 => ⟨S_, .f32⟩
  | 59 => ⟨S8192x2048, .f32⟩
  | 60 => ⟨S8192x2048, .f32⟩
  | 61 => ⟨S8192x2048, .f32⟩
  | 62 => ⟨S_, .f32⟩
  | 63 => ⟨S8192x2048, .f32⟩
  | 64 => ⟨S8192x2048, .f32⟩
  | 65 => ⟨S8192x2048, .f32⟩
  | 66 => ⟨S_, .f32⟩
  | 67 => ⟨S8192x2048, .f32⟩
  | 68 => ⟨S8192x2048, .f32⟩
  | 69 => ⟨S_, .f32⟩
  | 70 => ⟨S8192x2048, .f32⟩
  | 71 => ⟨S8192x2048, .f32⟩
  | 72 => ⟨S8192x2048, .f32⟩
  | 73 => ⟨S_, .f32⟩
  | 74 => ⟨S8192x2048, .f32⟩
  | 75 => ⟨S8192x2048, .f32⟩
  | 76 => ⟨S_, .f32⟩
  | 77 => ⟨S8192x2048, .f32⟩
  | 78 => ⟨S8192x2048, .f32⟩
  | 79 => ⟨S8192x2048, .f32⟩
  | 80 => ⟨S8192x2048, .f32⟩
  | 81 => ⟨S_, .f32⟩
  | 82 => ⟨S8192x2048, .f32⟩
  | 83 => ⟨S8192x2048, .f32⟩
  | 84 => ⟨S8192x2048, .f32⟩
  | 85 => ⟨S8192x2048, .f32⟩
  | 86 => ⟨S8192x2048, .f32⟩
  | 87 => ⟨S_, .f32⟩
  | 88 => ⟨S_, .f32⟩
  | 89 => ⟨S_, .f32⟩
  | 90 => ⟨S8192x2048, .f32⟩
  | 91 => ⟨S8192x2048, .f32⟩
  | 92 => ⟨S8192x2048, .f32⟩
  | 93 => ⟨S8192x2048, .f32⟩
  | 94 => ⟨S_, .f32⟩
  | 95 => ⟨S8192x2048, .f32⟩
  | 96 => ⟨S8192x2048, .f32⟩
  | 97 => ⟨S8192x2048, .f32⟩
  | 98 => ⟨S_, .f32⟩
  | 99 => ⟨S8192x2048, .f32⟩
  | 100 => ⟨S8192x2048, .f32⟩
  | 101 => ⟨S8192x2048, .f32⟩
  | 102 => ⟨S_, .f32⟩
  | 103 => ⟨S8192x2048, .f32⟩
  | 104 => ⟨S8192x2048, .f32⟩
  | 105 => ⟨S_, .f32⟩
  | 106 => ⟨S8192x2048, .f32⟩
  | 107 => ⟨S8192x2048, .f32⟩
  | 108 => ⟨S_, .f32⟩
  | 109 => ⟨S8192x2048, .f32⟩
  | 110 => ⟨S8192x2048, .f32⟩
  | 111 => ⟨S8192x2048, .f32⟩
  | 112 => ⟨S8192x2048, .f32⟩
  | 113 => ⟨S_, .f32⟩
  | 114 => ⟨S8192x2048, .f32⟩
  | 115 => ⟨S8192x2048, .f32⟩
  | 116 => ⟨S8192x2048, .f32⟩
  | 117 => ⟨S8192x2048, .f32⟩
  | 118 => ⟨S8192x2048, .f32⟩
  | 119 => ⟨S8192x2048, .f32⟩
  | 120 => ⟨S_, .f32⟩
  | 121 => ⟨S8192x2048, .f32⟩
  | 122 => ⟨S8192x2048, .f32⟩
  | 123 => ⟨S8192x2048, .f32⟩
  | 124 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_18 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_19 : Ref sig .tc := ⟨.hbm, 120, rfl⟩
abbrev main_cst_20 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_v88 : Ref sig .tc := ⟨.hbm, 127, rfl⟩
abbrev main_cst_21 : Ref sig .tc := ⟨.hbm, 128, rfl⟩
abbrev main_v89 : Ref sig .tc := ⟨.hbm, 129, rfl⟩
abbrev main_v90 : Ref sig .tc := ⟨.hbm, 130, rfl⟩
abbrev main_cst_22 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_23 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_24 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_25 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_26 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_27 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_cst_28 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_cst_29 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_cst_30 : Ref sig .tc := ⟨.hbm, 194, rfl⟩
abbrev main_v146 : Ref sig .tc := ⟨.hbm, 195, rfl⟩
abbrev main_v147 : Ref sig .tc := ⟨.hbm, 196, rfl⟩
abbrev main_cst_31 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_cst_32 : Ref sig .tc := ⟨.hbm, 201, rfl⟩
abbrev main_v151 : Ref sig .tc := ⟨.hbm, 202, rfl⟩
abbrev main_v152 : Ref sig .tc := ⟨.hbm, 203, rfl⟩
abbrev main_cst_33 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_34 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_cst_35 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_cst_36 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_cst_37 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_cst_38 : Ref sig .tc := ⟨.hbm, 230, rfl⟩
abbrev main_v174 : Ref sig .tc := ⟨.hbm, 231, rfl⟩
abbrev main_v175 : Ref sig .tc := ⟨.hbm, 232, rfl⟩
abbrev main_cst_39 : Ref sig .tc := ⟨.hbm, 233, rfl⟩
abbrev main_v176 : Ref sig .tc := ⟨.hbm, 234, rfl⟩
abbrev main_v177 : Ref sig .tc := ⟨.hbm, 235, rfl⟩
abbrev main_cst_40 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_cst_41 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_cst_42 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩

abbrev nD : Nat := 1
abbrev τ : Topo := Topo.v7x

variable {F : FTy → Type} [FloatOps F]
-- ==== Proof.Words.lean ====
/- The scalar side of the kernel's half-turn sine and cosine, at the extended reals.

   `cosP u` and `sinP u` are the polynomial approximants of `cos (π u)` and `sin (π u)`: `u` is reduced to its rest from
   the nearest integer (ties to even), the polynomial is taken of the rest, and the sign is the integer's parity.
   `cos_word` / `sin_word`: the kernel's route to them, through a 32-bit count of half turns shifted to the sign bit and a
   select, for an argument whose count fits 32 bits. `cos_host` / `sin_host`: the reference's route, through the floor of
   half the count. -/
module

public import Idealize.ShloMosaic.PureOps.Ideal.Laws

@[expose] public section

noncomputable section

namespace Cert.Gate

open Idealize.ShloMosaic

/-! ## The constants' words -/

def s0 : ℝ := 6586387 / 2097152
def s1 : ℝ := -(5386337 / 1048576)
def s2 : ℝ := 9643735 / 4194304
def c0 : ℝ := 4191773 / 4194304
def c1 : ℝ := -(10257113 / 2097152)
def c2 : ℝ := 15028133 / 4194304
/-- The golden ratio as the f32 nearest to it. -/
def phi : ℝ := 13573053 / 8388608
/-- One tenth as the f32 nearest to it. -/
def tenth : ℝ := 13421773 / 134217728

theorem word_s0 : Ideal.ofBits .f32 0x40490026#32 = (s0 : EReal) := by
  simp [Ideal.ofBits, Ideal.ieee, -EReal.coe_mul, s0]; norm_num
theorem word_s1 : Ideal.ofBits .f32 0xC0A460C2#32 = (s1 : EReal) := by
  simp [Ideal.ofBits, Ideal.ieee, -EReal.coe_mul, -EReal.coe_neg, s1]; norm_num
theorem word_s2 : Ideal.ofBits .f32 0x401326D7#32 = (s2 : EReal) := by
  simp [Ideal.ofBits, Ideal.ieee, -EReal.coe_mul, s2]; norm_num
theorem word_c0 : Ideal.ofBits .f32 0x3F7FD874#32 = (c0 : EReal) := by
  simp [Ideal.ofBits, Ideal.ieee, -EReal.coe_mul, c0]; norm_num
theorem word_c1 : Ideal.ofBits .f32 0xC09C82D9#32 = (c1 : EReal) := by
  simp [Ideal.ofBits, Ideal.ieee, -EReal.coe_mul, -EReal.coe_neg, c1]; norm_num
theorem word_c2 : Ideal.ofBits .f32 0x40654FA5#32 = (c2 : EReal) := by
  simp [Ideal.ofBits, Ideal.ieee, -EReal.coe_mul, c2]; norm_num
theorem word_phi : Ideal.ofBits .f32 0x3FCF1BBD#32 = (phi : EReal) := by
  simp [Ideal.ofBits, Ideal.ieee, -EReal.coe_mul, phi]; norm_num
theorem word_tenth : Ideal.ofBits .f32 0x3DCCCCCD#32 = (tenth : EReal) := by
  simp [Ideal.ofBits, Ideal.ieee, -EReal.coe_mul, tenth]; norm_num
theorem word_zero : Ideal.ofBits .f32 0x00000000#32 = ((0 : ℝ) : EReal) := by
  simp [Ideal.ofBits, Ideal.ieee, -EReal.coe_mul]
theorem word_one : Ideal.ofBits .f32 0x3F800000#32 = ((1 : ℝ) : EReal) := by
  simp [Ideal.ofBits, Ideal.ieee, -EReal.coe_mul]; norm_num
theorem word_neg_one : Ideal.ofBits .f32 0xBF800000#32 = ((-1 : ℝ) : EReal) := by
  simp [Ideal.ofBits, Ideal.ieee, -EReal.coe_mul, -EReal.coe_neg]; norm_num
theorem word_half : Ideal.ofBits .f32 0x3F000000#32 = ((1 / 2 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_2048 : Ideal.ofBits .f32 0x45000000#32 = ((2048 : ℝ) : EReal) := by
  simp [Ideal.ofBits, Ideal.ieee, -EReal.coe_mul]; norm_num
theorem word_range : Ideal.ofBits .f32 0x4E6E6B28#32 = ((1000000000 : ℝ) : EReal) := by
  simp [Ideal.ofBits, Ideal.ieee, -EReal.coe_mul]; norm_num

/-! ## Nearest half turn -/

/-- The nearest integer, ties to even. -/
abbrev turns (u : ℝ) : ℤ := Ideal.roundHalfEven u
/-- The rest from the nearest integer. -/
def rest (u : ℝ) : ℝ := u - turns u
/-- The sign a whole number of half turns gives. -/
def sgn (n : ℤ) : ℝ := if Odd n then -1 else 1

theorem abs_rest_le (u : ℝ) : |rest u| ≤ 1 / 2 := by
  have h0 := Int.floor_le u
  have h1 := Int.lt_floor_add_one u
  unfold rest turns Ideal.roundHalfEven
  dsimp only
  split_ifs with h2 h3 h4 <;> rw [abs_le] <;> push_cast <;> constructor <;> linarith

theorem abs_turns_le (u : ℝ) : |(turns u : ℝ)| ≤ |u| + 1 / 2 := by
  have h := abs_rest_le u
  have h' : (turns u : ℝ) = u - rest u := by unfold rest; ring
  rw [h']
  exact (abs_sub _ _).trans (by linarith)

def cosP (u : ℝ) : ℝ := sgn (turns u) * (c0 + c1 * rest u ^ 2 + c2 * rest u ^ 4)
def sinP (u : ℝ) : ℝ := sgn (turns u) * (s0 * rest u + s1 * rest u ^ 3 + s2 * rest u ^ 5)

/-! ## The kernel's route -/

/-- The count of half turns as a 32-bit word. -/
def count (a : EReal) : BitVec 32 := Ideal.fptosi 32 (Ideal.liftRound Ideal.roundHalfEven a)
/-- The count moved to the sign bit. -/
def mark (a : EReal) : BitVec 32 := IntOp.shli .vector (count a) 31#32
/-- The rest the kernel takes its polynomials of. -/
def restK (a : EReal) : EReal := a - (((count a).toInt : ℝ) : EReal)
/-- The kernel's change of sign: the operand from zero where the mark is not zero. -/
def flip (s : BitVec 32) (x : EReal) : EReal :=
  Scalar.select (IntOp.cmpi .ne s 0#32) (((0 : ℝ) : EReal) - x) x

theorem fptosi_int {n : ℤ} (h : |(n : ℝ)| ≤ 2147483647) : Ideal.fptosi 32 (((n : ℝ)) : EReal) = BitVec.ofInt 32 n := by
  rw [abs_le] at h
  have h1 : -2147483647 ≤ n := by exact_mod_cast h.1
  have h2 : n ≤ 2147483647 := by exact_mod_cast h.2
  rw [Ideal.fptosi, Ideal.toIntClamped_coe]
  congr 1
  simp only [Int.floor_intCast, Int.ceil_intCast, ite_self]
  norm_num
  omega

theorem count_coe {u : ℝ} (h : |u| ≤ 2147483646) : count (u : EReal) = BitVec.ofInt 32 (turns u) := by
  rw [count, Ideal.liftRound_coe]
  exact fptosi_int ((abs_turns_le u).trans (by linarith))

theorem toInt_count {u : ℝ} (h : |u| ≤ 2147483646) : (count (u : EReal)).toInt = turns u := by
  have hb := (abs_turns_le u).trans (add_le_add_left h (1 / 2))
  rw [abs_le] at hb
  have h1 : -2147483647 ≤ turns u := by
    have : (-2147483647 : ℝ) ≤ turns u := by linarith [hb.1]
    exact_mod_cast this
  have h2 : turns u ≤ 2147483647 := by
    have : (turns u : ℝ) ≤ 2147483647 := by linarith [hb.2]
    exact_mod_cast this
  rw [count_coe h, BitVec.toInt_ofInt]
  exact Int.bmod_eq_of_le (by norm_num; omega) (by norm_num; omega)

theorem restK_coe {u : ℝ} (h : |u| ≤ 2147483646) : restK (u : EReal) = (rest u : EReal) := by
  rw [restK, toInt_count h, ← EReal.coe_sub, rest]

theorem shift_ne_zero_iff (w : BitVec 32) : w <<< 31#32 ≠ 0#32 ↔ Odd w.toInt := by
  have h : (w <<< 31#32 ≠ 0#32) ↔ w.getLsbD 0 = true := by
    constructor
    · intro hw
      by_contra hc
      refine hw (BitVec.eq_of_getLsbD_eq fun i hi => ?_)
      simp only [BitVec.shiftLeft_eq', BitVec.getLsbD_shiftLeft, BitVec.getLsbD_zero]
      by_cases h31 : i < 31
      · simp [h31]
      · have : i = 31 := by omega
        subst this
        simpa using hc
    · intro hw hz
      have := congrArg (fun b => b.getLsbD 31) hz
      rw [BitVec.getLsbD_eq_getElem (by decide)] at hw
      simp [BitVec.getLsbD_shiftLeft, hw] at this
  rw [h, BitVec.getLsbD, BitVec.toInt_eq_toNat_bmod]
  rw [Nat.testBit_zero, decide_eq_true_iff]
  constructor
  · intro ho
    rw [Int.odd_iff, Int.bmod_def]
    split_ifs <;> omega
  · intro ho
    rw [Int.odd_iff, Int.bmod_def] at ho
    split_ifs at ho <;> omega

theorem flip_mark {u : ℝ} (h : |u| ≤ 2147483646) (x : ℝ) :
    flip (mark (u : EReal)) (x : EReal) = ((sgn (turns u) * x : ℝ) : EReal) := by
  have hm : mark (u : EReal) ≠ 0#32 ↔ Odd (turns u) := by
    rw [← toInt_count h, ← shift_ne_zero_iff]
    rw [mark, IntOp.shli, if_pos (by decide)]
  unfold flip IntOp.cmpi Scalar.select
  by_cases ho : mark (u : EReal) = 0#32
  · have he : ¬ Odd (turns u) := fun h' => (hm.mpr h') ho
    rw [ho, sgn, if_neg he]
    simp
  · have he : Odd (turns u) := hm.mp ho
    have hb : (mark (u : EReal) != 0#32) = true := by simpa using ho
    rw [sgn, if_pos he]
    simp only [hb]
    rw [← EReal.coe_sub]
    simp

/-- The kernel's cosine of `u` half turns. -/
def cosK (a : EReal) : EReal :=
  flip (mark a) (((c2 : EReal) * (restK a * restK a) + (c1 : EReal)) * (restK a * restK a) + (c0 : EReal))
/-- The kernel's sine of `u` half turns. -/
def sinK (a : EReal) : EReal :=
  flip (mark a) ((((s2 : EReal) * (restK a * restK a) + (s1 : EReal)) * (restK a * restK a) + (s0 : EReal)) * restK a)

theorem cosK_coe {u : ℝ} (h : |u| ≤ 2147483646) : cosK (u : EReal) = (cosP u : EReal) := by
  rw [cosK, restK_coe h, ← EReal.coe_mul, ← EReal.coe_mul, ← EReal.coe_add, ← EReal.coe_mul, ← EReal.coe_add, flip_mark h, cosP]
  congr 2; ring

theorem sinK_coe {u : ℝ} (h : |u| ≤ 2147483646) : sinK (u : EReal) = (sinP u : EReal) := by
  rw [sinK, restK_coe h, ← EReal.coe_mul, ← EReal.coe_mul, ← EReal.coe_add, ← EReal.coe_mul, ← EReal.coe_add, ← EReal.coe_mul,
    flip_mark h, sinP]
  congr 2; ring

/-! ## The reference's route -/

theorem parity (n : ℤ) : (1 : ℝ) - 2 * (n - 2 * (⌊(n : ℝ) * (1 / 2)⌋ : ℤ)) = sgn n := by
  have hf : ⌊(n : ℝ) * (1 / 2)⌋ = n / 2 := by
    have : (n : ℝ) * (1 / 2) = (n : ℝ) / ((2 : ℕ) : ℝ) := by push_cast; ring
    rw [this, Int.floor_div_natCast, Int.floor_intCast]; rfl
  rw [hf, sgn]
  rcases Int.even_or_odd n with he | ho
  · rw [if_neg (by simpa using he)]
    obtain ⟨k, rfl⟩ := he
    rw [show (k + k) / 2 = k by omega]; push_cast; ring
  · rw [if_pos ho]
    obtain ⟨k, rfl⟩ := ho
    rw [show (2 * k + 1) / 2 = k by omega]; push_cast; ring

/-- The nearest half turn of an angle, as the reference rounds it. -/
def roundH (a : EReal) : EReal := Ideal.liftRound Ideal.roundHalfEven (Ideal.div a (Ideal.acos ((-1 : ℝ) : EReal)))
def restH (a : EReal) : EReal := Ideal.div a (Ideal.acos ((-1 : ℝ) : EReal)) - roundH a
def signH (n : EReal) : EReal :=
  ((1 : ℝ) : EReal) - ((2 : ℝ) : EReal) * (n - ((2 : ℝ) : EReal) * Ideal.liftRound Int.floor (Ideal.div n ((2 : ℝ) : EReal)))
/-- The reference's cosine of an angle. -/
def cosH (a : EReal) : EReal :=
  signH (roundH a) * ((c0 : EReal) + (c1 : EReal) * (restH a * restH a) + (c2 : EReal) * (restH a * restH a * (restH a * restH a)))
/-- The reference's sine of an angle. -/
def sinH (a : EReal) : EReal :=
  signH (roundH a) * ((s0 : EReal) * restH a + (s1 : EReal) * (restH a * restH a * restH a)
    + (s2 : EReal) * (restH a * (restH a * restH a * (restH a * restH a))))

theorem acos_neg_one : Ideal.acos ((-1 : ℝ) : EReal) = (Real.pi : EReal) := by
  rw [Ideal.acos_coe, if_pos (by norm_num), Real.arccos_neg_one]

theorem roundH_coe (y : ℝ) : roundH (y : EReal) = ((turns (y / Real.pi) : ℝ) : EReal) := by
  rw [roundH, acos_neg_one, Ideal.div_coe Real.pi_ne_zero, ← EReal.coe_mul, mul_one_div, Ideal.liftRound_coe]

theorem restH_coe (y : ℝ) : restH (y : EReal) = (rest (y / Real.pi) : EReal) := by
  rw [restH, roundH_coe, acos_neg_one, Ideal.div_coe Real.pi_ne_zero, ← EReal.coe_mul, mul_one_div, ← EReal.coe_sub, rest]

theorem signH_coe (n : ℤ) : signH ((n : ℝ) : EReal) = (sgn n : EReal) := by
  rw [signH, Ideal.div_coe two_ne_zero, ← EReal.coe_mul, Ideal.liftRound_coe, ← EReal.coe_mul, ← EReal.coe_sub, ← EReal.coe_mul,
    ← EReal.coe_sub, parity]

theorem cosH_coe (y : ℝ) : cosH (y : EReal) = (cosP (y / Real.pi) : EReal) := by
  rw [cosH, roundH_coe, signH_coe, restH_coe]
  simp only [← EReal.coe_mul, ← EReal.coe_add]
  rw [cosP]
  congr 2; ring

theorem sinH_coe (y : ℝ) : sinH (y : EReal) = (sinP (y / Real.pi) : EReal) := by
  rw [sinH, roundH_coe, signH_coe, restH_coe]
  simp only [← EReal.coe_mul, ← EReal.coe_add]
  rw [sinP]
  congr 2; ring

end Cert.Gate

end
-- ==== Proof.Gate.lean ====
/- One batch row of the gate, at the extended reals: what the kernel computes for it (`stateK`, from the row's two
   signal vectors, its time, the two width vectors and the decay constant) and what the reference computes (`stateH`),
   both brought to one function of real numbers (`state`).

   The widths and the decay constant may be any extended reals: a width enters only through the reciprocal of one plus its
   absolute value, a real in `[0, 1]`, and the decay constant only through an exponential whose argument is never
   positive, a real in `[0, 1]` too. -/
module

public import proofs.«01_k».proof.Proof.Words

@[expose] public section

noncomputable section

namespace Cert.Gate

open Idealize.ShloMosaic
open scoped BigOperators

/-! ## A width's reciprocal -/

/-- One plus a width's absolute value. -/
def span (w : EReal) : EReal := ((1 : ℝ) : EReal) + max w (-w)
/-- The reciprocal of `span w`, a real. -/
def recip (w : EReal) : ℝ := (span w)⁻¹.toReal

theorem mag_nonneg (w : EReal) : 0 ≤ max w (-w) := by
  rcases le_total 0 w with h | h
  · exact le_max_of_le_left h
  · exact le_max_of_le_right (by simpa using EReal.neg_le_neg_iff.mpr h)

theorem one_le_span (w : EReal) : 1 ≤ span w := by
  have := add_le_add_right (mag_nonneg w) (1 : EReal)
  simpa [span] using this

theorem recip_spec (w : EReal) : (span w)⁻¹ = (recip w : EReal) ∧ 0 ≤ recip w ∧ recip w ≤ 1 := by
  unfold recip
  have h := one_le_span w
  induction hs : span w with
  | bot => rw [hs] at h; exact absurd h (by decide)
  | top => simp
  | coe r =>
    rw [hs] at h
    have h1 : (1 : ℝ) ≤ r := by exact_mod_cast h
    rw [← EReal.coe_inv, EReal.toReal_coe]
    exact ⟨rfl, inv_nonneg.mpr (by linarith), inv_le_one_of_one_le₀ h1⟩

theorem div_span (x : EReal) (w : EReal) : Ideal.div x (span w) = x * (recip w : EReal) := by
  have h := one_le_span w
  rw [Ideal.div, if_neg (fun h0 => by rw [h0] at h; exact absurd h (by simp)), (recip_spec w).1]

/-! ## The decay -/

/-- The decay rate: the constant's absolute value and a tenth. -/
def rate (k : EReal) : EReal := max k (-k) + (tenth : EReal)

/-- The kernel's exponent, half the rate times the gate less one, is the reference's. -/
theorem exponent_eq (k : EReal) {c : ℝ} (h : c ≤ 1) :
    rate k * ((1 / 2 : ℝ) : EReal) * ((c - 1 : ℝ) : EReal) = -(rate k) * (((1 - c) / 2 : ℝ) : EReal) := by
  rw [mul_assoc, ← EReal.coe_mul, neg_mul, ← mul_neg, ← EReal.coe_neg]
  congr 2; ring

theorem rate_nonneg (k : EReal) : 0 ≤ rate k := by
  refine add_nonneg (mag_nonneg k) ?_
  exact_mod_cast (by unfold tenth; norm_num : (0 : ℝ) ≤ tenth)

/-- What the gate leaves of the signal, a real. -/
def decay (k : EReal) (c : ℝ) : ℝ := (Ideal.exp (-(rate k) * (((1 - c) / 2 : ℝ) : EReal))).toReal

theorem exp_of_nonpos {x : EReal} (h : x ≤ 0) : Ideal.exp x = ((Ideal.exp x).toReal : EReal) ∧ 0 ≤ (Ideal.exp x).toReal ∧ (Ideal.exp x).toReal ≤ 1 := by
  induction x with
  | bot => simp
  | top => exact absurd h (by simp)
  | coe r =>
    have h1 : r ≤ 0 := by exact_mod_cast h
    rw [Ideal.exp_coe, EReal.toReal_coe]
    exact ⟨rfl, (Real.exp_pos r).le, Real.exp_le_one_iff.mpr h1⟩

theorem decay_spec (k : EReal) {c : ℝ} (h : c ≤ 1) :
    Ideal.exp (-(rate k) * (((1 - c) / 2 : ℝ) : EReal)) = (decay k c : EReal) ∧ 0 ≤ decay k c ∧ decay k c ≤ 1 := by
  refine exp_of_nonpos ?_
  rw [EReal.neg_mul]
  have : (0 : EReal) ≤ rate k * (((1 - c) / 2 : ℝ) : EReal) :=
    mul_nonneg (rate_nonneg k) (by exact_mod_cast (by linarith : (0 : ℝ) ≤ (1 - c) / 2))
  simpa using EReal.neg_le_neg_iff.mpr this

theorem decay_kernel (k : EReal) {c : ℝ} (h : c ≤ 1) :
    Ideal.exp (rate k * ((1 / 2 : ℝ) : EReal) * (((c : ℝ) : EReal) - ((1 : ℝ) : EReal))) = (decay k c : EReal) := by
  rw [← EReal.coe_sub, exponent_eq k h, (decay_spec k h).1]

/-! ## The row over the reals -/

variable {n : ℕ}

/-- The gate a row's interference sum opens: the sum over the square root of the row's length, clipped to `[-1, 1]`. -/
def clip (s : ℝ) : ℝ := min 1 (max (-1) (s / Real.sqrt 2048))

theorem clip_le (s : ℝ) : clip s ≤ 1 := min_le_left _ _
theorem le_clip (s : ℝ) : -1 ≤ clip s := le_min (by norm_num) (le_max_left _ _)

/-- A signal's phase in half turns: the two signals together over the width, and twice the time's turn. -/
def turn (s q t : ℝ) : ℝ := (s * q + 2 * (t * phi)) / Real.pi
/-- A row's interference: the two signals on the trigger phase's cosine and sine, summed over the row. -/
def inter (xr xi : Fin n → ℝ) (t : ℝ) (q : Fin n → ℝ) : ℝ :=
  ∑ l, (cosP (turn (xr l + xi l) (q l) t) * xr l + sinP (turn (xr l + xi l) (q l) t) * xi l)
/-- The row's state phase in half turns. -/
def state (xr xi : Fin n → ℝ) (t : ℝ) (wt ws : Fin n → EReal) (k : EReal) (l : Fin n) : ℝ :=
  turn (decay k (clip (inter xr xi t (fun l => recip (wt l)))) * (xr l + xi l)) (recip (ws l)) t

/-- The bound the signals and the time keep. -/
abbrev lim : ℝ := 1000000000

theorem le_pi : (14 / 5 : ℝ) ≤ Real.pi := by
  by_contra h
  push Not at h
  have hx0 : 0 < Real.pi / 4 := by positivity
  have hx1 : Real.pi / 4 < 7 / 10 := by linarith
  have hb := (abs_le.mp (Real.cos_bound (x := Real.pi / 4) (by rw [abs_of_pos hx0]; linarith))).1
  rw [Real.cos_pi_div_four, abs_of_pos hx0] at hb
  have h2 : Real.sqrt 2 < 1415 / 1000 := by rw [Real.sqrt_lt' (by norm_num)]; norm_num
  have h3 : (Real.pi / 4) ^ 2 ≤ (7 / 10) ^ 2 := pow_le_pow_left₀ hx0.le hx1.le 2
  have h4 : (Real.pi / 4) ^ 4 ≤ (7 / 10) ^ 4 := pow_le_pow_left₀ hx0.le hx1.le 4
  norm_num at h3 h4 hb
  linarith

theorem abs_turn_le {s q t : ℝ} (hs : |s| ≤ 2 * lim) (h0 : 0 ≤ q) (h1 : q ≤ 1) (ht : |t| ≤ lim) :
    |turn s q t| ≤ 2147483646 := by
  rw [turn, abs_div, abs_of_pos Real.pi_pos, div_le_iff₀ Real.pi_pos]
  have h2 : |s * q| ≤ 2 * lim := by
    rw [abs_mul, abs_of_nonneg h0]
    nlinarith [_root_.abs_nonneg s]
  have h3 : |2 * (t * phi)| ≤ 2 * (lim * (17 / 10)) := by
    rw [abs_mul, abs_mul, abs_of_pos (by norm_num : (0 : ℝ) < 2), abs_of_nonneg (by unfold phi; norm_num : (0 : ℝ) ≤ phi)]
    have : phi ≤ 17 / 10 := by unfold phi; norm_num
    have h0' : (0 : ℝ) ≤ phi := by unfold phi; norm_num
    have := mul_le_mul ht this h0' (by norm_num)
    linarith
  calc |s * q + 2 * (t * phi)| ≤ |s * q| + |2 * (t * phi)| := abs_add_le _ _
    _ ≤ 2 * lim + 2 * (lim * (17 / 10)) := add_le_add h2 h3
    _ ≤ 2147483646 * (14 / 5) := by norm_num
    _ ≤ 2147483646 * Real.pi := mul_le_mul_of_nonneg_left le_pi (by norm_num)

theorem coe_sum {ι : Type} (s : Finset ι) (f : ι → ℝ) : (∑ l ∈ s, (f l : EReal)) = ((∑ l ∈ s, f l : ℝ) : EReal) := by
  classical
  induction s using Finset.induction_on with
  | empty => simp
  | insert a s ha ih => rw [Finset.sum_insert ha, Finset.sum_insert ha, ih, EReal.coe_add]

theorem coe_clip (s : ℝ) :
    min ((1 : ℝ) : EReal) (max ((-1 : ℝ) : EReal) ((s / Real.sqrt 2048 : ℝ) : EReal)) = (clip s : EReal) := by
  have hm : Monotone ((↑) : ℝ → EReal) := EReal.coe_strictMono.monotone
  rw [clip, hm.map_min, hm.map_max]

/-! ## The kernel's row -/

/-- A width's reciprocal over pi, as the kernel divides. -/
def rateK (w : EReal) : EReal := Ideal.div ((Real.pi⁻¹ : ℝ) : EReal) (span w)
/-- The time's turn in half turns. -/
def timeK (t : EReal) : EReal := t * ((13573053 / 4194304 * Real.pi⁻¹ : ℝ) : EReal)
def turnK (s w t : EReal) : EReal := s * rateK w + timeK t
def interK (xr xi : Fin n → EReal) (t : EReal) (wt : Fin n → EReal) : EReal :=
  ∑ l, (cosK (turnK (xr l + xi l) (wt l) t) * xr l + sinK (turnK (xr l + xi l) (wt l) t) * xi l)
def gateK (xr xi : Fin n → EReal) (t : EReal) (wt : Fin n → EReal) (k : EReal) : EReal :=
  Ideal.exp (rate k * ((1 / 2 : ℝ) : EReal)
    * (min ((1 : ℝ) : EReal) (max ((-1 : ℝ) : EReal) (interK xr xi t wt * (((Real.sqrt 2048)⁻¹ : ℝ) : EReal))) - ((1 : ℝ) : EReal)))
/-- The kernel's state phase of a row's lane. -/
def stateK (xr xi : Fin n → EReal) (t : EReal) (wt ws : Fin n → EReal) (k : EReal) (l : Fin n) : EReal :=
  turnK (gateK xr xi t wt k * (xr l + xi l)) (ws l) t

theorem stateK_congr {xr xr' xi xi' : Fin n → EReal} {t t' : EReal} {wt wt' ws ws' : Fin n → EReal} {k k' : EReal}
    (hr : ∀ l, xr l = xr' l) (hi : ∀ l, xi l = xi' l) (ht : t = t') (hwt : ∀ l, wt l = wt' l) (hws : ∀ l, ws l = ws' l)
    (hk : k = k') (l : Fin n) : stateK xr xi t wt ws k l = stateK xr' xi' t' wt' ws' k' l := by
  rw [funext hr, funext hi, ht, funext hwt, funext hws, hk]

theorem turnK_coe (s t : ℝ) (w : EReal) : turnK (s : EReal) w (t : EReal) = (turn s (recip w) t : EReal) := by
  rw [turnK, rateK, timeK, div_span, ← EReal.coe_mul, ← EReal.coe_mul, ← EReal.coe_mul, ← EReal.coe_add, turn]
  congr 1
  rw [phi]; ring

section Rows

variable {xr xi : Fin n → ℝ} {t : ℝ} (hr : ∀ l, |xr l| ≤ lim) (hi : ∀ l, |xi l| ≤ lim) (ht : |t| ≤ lim)
variable (wt ws : Fin n → EReal) (k : EReal)

include hr hi in
theorem abs_sum_le (l : Fin n) : |xr l + xi l| ≤ 2 * lim := by
  have := abs_add_le (xr l) (xi l)
  linarith [hr l, hi l]

include hr hi ht in
theorem interK_coe : interK (fun l => (xr l : EReal)) (fun l => (xi l : EReal)) (t : EReal) wt
    = (inter xr xi t (fun l => recip (wt l)) : EReal) := by
  rw [interK, inter, ← coe_sum]
  refine Finset.sum_congr rfl fun l _ => ?_
  have hb := abs_turn_le (abs_sum_le hr hi l) (recip_spec (wt l)).2.1 (recip_spec (wt l)).2.2 ht
  rw [← EReal.coe_add, turnK_coe, cosK_coe hb, sinK_coe hb, ← EReal.coe_mul, ← EReal.coe_mul, ← EReal.coe_add]

include hr hi ht in
theorem gateK_coe : gateK (fun l => (xr l : EReal)) (fun l => (xi l : EReal)) (t : EReal) wt k
    = (decay k (clip (inter xr xi t (fun l => recip (wt l)))) : EReal) := by
  rw [gateK, interK_coe hr hi ht, ← EReal.coe_mul, ← div_eq_mul_inv, coe_clip, decay_kernel k (clip_le _)]

include hr hi ht in
theorem stateK_coe (l : Fin n) : stateK (fun l => (xr l : EReal)) (fun l => (xi l : EReal)) (t : EReal) wt ws k l
    = (state xr xi t wt ws k l : EReal) := by
  rw [stateK, gateK_coe hr hi ht, ← EReal.coe_add, ← EReal.coe_mul, turnK_coe, state]

include hr hi ht in
theorem abs_state_le (l : Fin n) : |state xr xi t wt ws k l| ≤ 2147483646 := by
  refine abs_turn_le ?_ (recip_spec (ws l)).2.1 (recip_spec (ws l)).2.2 ht
  have hd := (decay_spec k (clip_le (inter xr xi t (fun l => recip (wt l))))).2
  rw [abs_mul, abs_of_nonneg hd.1]
  have := abs_sum_le hr hi l
  nlinarith [_root_.abs_nonneg (xr l + xi l)]

/-- The kernel's two results at a lane, as reals. -/
theorem kernel_row (hr : ∀ l, |xr l| ≤ lim) (hi : ∀ l, |xi l| ≤ lim) (ht : |t| ≤ lim) (l : Fin n) :
    cosK (stateK (fun l => (xr l : EReal)) (fun l => (xi l : EReal)) (t : EReal) wt ws k l) = (cosP (state xr xi t wt ws k l) : EReal)
    ∧ sinK (stateK (fun l => (xr l : EReal)) (fun l => (xi l : EReal)) (t : EReal) wt ws k l) = (sinP (state xr xi t wt ws k l) : EReal) := by
  rw [stateK_coe hr hi ht, cosK_coe (abs_state_le hr hi ht wt ws k l), sinK_coe (abs_state_le hr hi ht wt ws k l)]
  exact ⟨rfl, rfl⟩

end Rows

/-! ## The reference's row, the memory and the biases at zero -/

/-- A phase as the reference takes it: a signal over its width, the bias, the time times the golden ratio. -/
def phaseH (x w b t : EReal) : EReal := Ideal.div x (span w) + b + t * (phi : EReal)
def angleH (xr xi w b t : EReal) : EReal := phaseH xr w b t + phaseH xi w b t
def interH (xr xi : Fin n → EReal) (t : EReal) (wt bt : Fin n → EReal) : EReal :=
  ((0 : ℝ) : EReal) + ∑ l, (cosH (angleH (xr l) (xi l) (wt l) (bt l) t) * xr l + sinH (angleH (xr l) (xi l) (wt l) (bt l) t) * xi l)
def gateH (xr xi : Fin n → EReal) (t : EReal) (wt bt : Fin n → EReal) (k : EReal) : EReal :=
  Ideal.exp (-(rate k) * Ideal.div (((1 : ℝ) : EReal) - min ((1 : ℝ) : EReal) (max ((-1 : ℝ) : EReal)
    (Ideal.div (interH xr xi t wt bt) (Ideal.sqrt ((2048 : ℝ) : EReal))))) ((2 : ℝ) : EReal))
/-- The signal blended with the memory. -/
def blendH (g x y : EReal) : EReal := g * x + (((1 : ℝ) : EReal) - g) * y
def stateH (xr xi : Fin n → EReal) (t : EReal) (wt bt ws bs mr mi : Fin n → EReal) (k : EReal) (l : Fin n) : EReal :=
  angleH (blendH (gateH xr xi t wt bt k) (xr l) (mr l)) (blendH (gateH xr xi t wt bt k) (xi l) (mi l)) (ws l) (bs l) t

theorem angleH_coe (x y t : ℝ) (w : EReal) :
    angleH (x : EReal) (y : EReal) w ((0 : ℝ) : EReal) (t : EReal) = (((x + y) * recip w + 2 * (t * phi) : ℝ) : EReal) := by
  rw [angleH, phaseH, phaseH, div_span, div_span]
  simp only [← EReal.coe_mul, ← EReal.coe_add]
  congr 1; ring

theorem blendH_coe (g x : ℝ) : blendH (g : EReal) (x : EReal) ((0 : ℝ) : EReal) = ((g * x : ℝ) : EReal) := by
  rw [blendH]
  simp only [← EReal.coe_sub, ← EReal.coe_mul, ← EReal.coe_add]
  congr 1; ring

section Rows

variable (xr xi : Fin n → ℝ) (t : ℝ) (wt ws : Fin n → EReal) (k : EReal)

theorem interH_coe : interH (fun l => (xr l : EReal)) (fun l => (xi l : EReal)) (t : EReal) wt (fun _ => ((0 : ℝ) : EReal))
    = (inter xr xi t (fun l => recip (wt l)) : EReal) := by
  rw [interH, inter, ← zero_add (∑ l, (_ : ℝ)), EReal.coe_add, ← coe_sum]
  congr 1
  refine Finset.sum_congr rfl fun l _ => ?_
  rw [angleH_coe, cosH_coe, sinH_coe, ← EReal.coe_mul, ← EReal.coe_mul, ← EReal.coe_add]
  rfl

theorem gateH_coe : gateH (fun l => (xr l : EReal)) (fun l => (xi l : EReal)) (t : EReal) wt (fun _ => ((0 : ℝ) : EReal)) k
    = (decay k (clip (inter xr xi t (fun l => recip (wt l)))) : EReal) := by
  have hs : Real.sqrt 2048 ≠ 0 := (Real.sqrt_pos.mpr (by norm_num)).ne'
  rw [gateH, interH_coe, Ideal.sqrt_coe, if_neg (by norm_num), Ideal.div_coe hs, ← EReal.coe_mul, mul_one_div, coe_clip,
    ← EReal.coe_sub, Ideal.div_coe two_ne_zero, ← EReal.coe_mul, mul_one_div, (decay_spec k (clip_le _)).1]

/-- The reference's two results at a lane, as reals: the kernel's. -/
theorem host_row (l : Fin n) :
    cosH (stateH (fun l => (xr l : EReal)) (fun l => (xi l : EReal)) (t : EReal) wt (fun _ => ((0 : ℝ) : EReal)) ws
      (fun _ => ((0 : ℝ) : EReal)) (fun _ => ((0 : ℝ) : EReal)) (fun _ => ((0 : ℝ) : EReal)) k l) = (cosP (state xr xi t wt ws k l) : EReal)
    ∧ sinH (stateH (fun l => (xr l : EReal)) (fun l => (xi l : EReal)) (t : EReal) wt (fun _ => ((0 : ℝ) : EReal)) ws
      (fun _ => ((0 : ℝ) : EReal)) (fun _ => ((0 : ℝ) : EReal)) (fun _ => ((0 : ℝ) : EReal)) k l) = (sinP (state xr xi t wt ws k l) : EReal) := by
  rw [stateH, gateH_coe, blendH_coe, blendH_coe, angleH_coe, cosH_coe, sinH_coe, ← mul_add]
  exact ⟨rfl, rfl⟩

end Rows

end Cert.Gate

end
-- ==== Proof.Stripe.lean ====
/- The kernel's body as a function of one stripe, eight batch rows: what it computes from a stripe's loads, and that the
   pieces it writes are the 64 stripes of a block of 512 rows. -/
module

public import proofs.«01_k».proof.Proof.Gen.KernelIdeal.Frame

@[expose] public section

set_option maxRecDepth 16384

noncomputable section

namespace Cert.KernelIdeal.Stripe

open Idealize.ShloMosaic Idealize.ShloMosaic.TcCoe Idealize.ShloMosaic.Tactic Cert.KernelIdeal.Gen

variable {F : FTy → Type} [FloatOps F] [Named F]

/-! ## The vectors of a stripe -/

/-- The reciprocal of a width over pi. -/
def rate (w : Vec F S1x2048 .f32) : FVec F S1x2048 .f32 :=
  divf (broadcast S1x2048 (Named.named κ "inv_pi" 0x3EA2F983#32))
    (addf (broadcast S1x2048 (Scalar.ofBits .f32 0x3F800000#32)) (absf (shapeCast S1x2048 w shapeCasts_S1x2048_S1x2048)))

/-- Half the decay rate. -/
def halfRate (k : Elt F .f32) : F .f32 :=
  Scalar.mulf (Scalar.addf (Scalar.absf k) (Scalar.ofBits .f32 0x3DCCCCCD#32)) (Scalar.ofBits .f32 0x3F000000#32)

/-- The time's turn. -/
def time (t : Vec F S8x1 .f32) : FVec F S8x1 .f32 :=
  mulf (shapeCast S8x1 t shapeCasts_S8x1_S8x1) (broadcast S8x1 (Named.named κ "two_phi_over_pi" 0x3F83D96A#32))

/-- A phase in half turns. -/
def turn (s : FVec F S8x2048 .f32) (q : FVec F S1x2048 .f32) (u : FVec F S8x1 .f32) : FVec F S8x2048 .f32 :=
  addf (mulf s (broadcastTo S8x2048 q broadcasts_S1x2048_S8x2048)) (broadcastTo S8x2048 u broadcasts_S8x1_S8x2048)

def count (a : FVec F S8x2048 .f32) : IVec S8x2048 32 := fptosi 32 (roundeven a)
def mark (a : FVec F S8x2048 .f32) : IVec S8x2048 32 := shli (count a) (broadcast S8x2048 31#32)
def rest (a : FVec F S8x2048 .f32) : FVec F S8x2048 .f32 := subf a (sitofp .f32 (count a))
def square (a : FVec F S8x2048 .f32) : FVec F S8x2048 .f32 := mulf (rest a) (rest a)
def flip (s : IVec S8x2048 32) (x : FVec F S8x2048 .f32) : FVec F S8x2048 .f32 :=
  select (cmpi .ne s (broadcast S8x2048 0#32)) (subf (broadcast S8x2048 (Scalar.ofBits .f32 0x00000000#32)) x) x

/-- The cosine polynomial of a phase. -/
def cos (a : FVec F S8x2048 .f32) : FVec F S8x2048 .f32 :=
  flip (mark a) (addf (mulf (addf (mulf (broadcast S8x2048 (Scalar.ofBits .f32 0x40654FA5#32)) (square a))
    (broadcast S8x2048 (Scalar.ofBits .f32 0xC09C82D9#32))) (square a)) (broadcast S8x2048 (Scalar.ofBits .f32 0x3F7FD874#32)))

/-- The sine polynomial of a phase. -/
def sin (a : FVec F S8x2048 .f32) : FVec F S8x2048 .f32 :=
  flip (mark a) (mulf (addf (mulf (addf (mulf (broadcast S8x2048 (Scalar.ofBits .f32 0x401326D7#32)) (square a))
    (broadcast S8x2048 (Scalar.ofBits .f32 0xC0A460C2#32))) (square a)) (broadcast S8x2048 (Scalar.ofBits .f32 0x40490026#32))) (rest a))

/-- The interference of a stripe's rows, summed over the lanes. -/
def inter (xr xi : Vec F S8x2048 .f32) (a : FVec F S8x2048 .f32) : FVec F S8 .f32 :=
  multiReduction .add [1] S8 (addf (mulf (cos a) xr) (mulf (sin a) xi)) 0x00000000#32 reduces_S8x2048_S8 (.inl rfl) rfl

/-- The decay a stripe's interference opens, from half the decay rate. -/
def gate (h : F .f32) (s : FVec F S8 .f32) : FVec F S8x1 .f32 :=
  exp (mulf (broadcast S8x1 h) (subf (minimumf (broadcast S8x1 (Scalar.ofBits .f32 0x3F800000#32))
    (maximumf (broadcast S8x1 (Scalar.ofBits .f32 0xBF800000#32))
      (mulf (shapeCast S8x1 s shapeCasts_S8_S8x1) (broadcast S8x1 (Named.named κ "inv_scale" 0x3CB504F3#32)))))
    (broadcast S8x1 (Scalar.ofBits .f32 0x3F800000#32))))

/-- The state phase of a stripe, from its loads. -/
def state (k : Elt F .f32) (t : Vec F S8x1 .f32) (xr xi : Vec F S8x2048 .f32) (wt ws : Vec F S1x2048 .f32) : FVec F S8x2048 .f32 :=
  turn (mulf (broadcastTo S8x2048 (gate (halfRate k) (inter xr xi (turn (addf xr xi) (rate wt) (time t)))) broadcasts_S8x1_S8x2048)
    (addf xr xi)) (rate ws) (time t)

/-! ## The stripes of a block -/

theorem rows_inb (k : Fin 64) : ∀ a, (![8 * k.val, 0] : Fin 2 → Nat) a + S8x2048.size a ≤ S512x2048.size a := by
  intro a
  match a with
  | 0 => show 8 * k.val + 8 ≤ 512; omega
  | 1 => show 0 + 2048 ≤ 2048; omega

theorem column_inb (k : Fin 64) : ∀ a, (![8 * k.val, 0] : Fin 2 → Nat) a + S8x1.size a ≤ S512x1.size a := by
  intro a
  match a with
  | 0 => show 8 * k.val + 8 ≤ 512; omega
  | 1 => show 0 + 1 ≤ 1; omega

/-- Stripe `k`'s rows of a block. -/
abbrev rows (k : Fin 64) : Rect S512x2048 := Rect.unit ![8 * k.val, 0] S8x2048.size (rows_inb k)
/-- Stripe `k`'s rows of a block's column. -/
abbrev column (k : Fin 64) : Rect S512x1 := Rect.unit ![8 * k.val, 0] S8x1.size (column_inb k)

variable (c : Dev nD) (i : grid0.Coords) (arg1 : Memref sig .tc .smem S1 .f32) (harg1 : arg1.IsWhole) (arg2 : Memref sig .tc .vmem S512x1 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole)
variable (x0 : Vec F S1 .f32) (x1 : Vec F S512x1 .f32) (x2 : Vec F S512x2048 .f32) (x3 : Vec F S512x2048 .f32) (x4 : Vec F S1x2048 .f32) (x5 : Vec F S1x2048 .f32)

/-- The state phase of stripe `k`, its loads read from the staging buffers. -/
def loaded (k : Fin 64) : FVec F S8x2048 .f32 :=
  state (View.readAt (Elt F) arg1.view (Rect.unit ![0] S1.size inb_S1_S1_0).toLoadRect (harg1.unread x0) (Shape.Idx.first (numel1_S1.symm ▸ Nat.one_pos)))
    (View.readAt (Elt F) arg2.view (column k).toLoadRect (harg2.unread x1))
    (View.readAt (Elt F) arg3.view (rows k).toLoadRect (harg3.unread x2))
    (View.readAt (Elt F) arg4.view (rows k).toLoadRect (harg4.unread x3))
    (View.readAt (Elt F) arg5.view (Rect.unit ![0, 0] S1x2048.size inb_S1x2048_S1x2048_0_0).toLoadRect (harg5.unread x4))
    (View.readAt (Elt F) arg6.view (Rect.unit ![0, 0] S1x2048.size inb_S1x2048_S1x2048_0_0).toLoadRect (harg6.unread x5))

theorem pieces_real :
    (kernelRun0_A c i arg1 harg1 arg2 harg2 arg3 harg3 arg4 harg4 arg5 harg5 arg6 harg6 arg7 harg7 arg8 harg8 x0 x1 x2 x3 x4 x5).1
      = List.ofFn fun k : Fin 64 => ⟨rows k.rev, cos (loaded arg1 harg1 arg2 harg2 arg3 harg3 arg4 harg4 arg5 harg5 arg6 harg6 x0 x1 x2 x3 x4 x5 k.rev)⟩ := by
  sl_kernel_rfl

theorem pieces_imag :
    (kernelRun0_A c i arg1 harg1 arg2 harg2 arg3 harg3 arg4 harg4 arg5 harg5 arg6 harg6 arg7 harg7 arg8 harg8 x0 x1 x2 x3 x4 x5).2.1
      = List.ofFn fun k : Fin 64 => ⟨rows k.rev, sin (loaded arg1 harg1 arg2 harg2 arg3 harg3 arg4 harg4 arg5 harg5 arg6 harg6 x0 x1 x2 x3 x4 x5 k.rev)⟩ := by
  sl_kernel_rfl

end Cert.KernelIdeal.Stripe

end
-- ==== Proof.Rows.lean ====
/- A block of the kernel at the extended reals: the two result blocks are, row by row, the cosine and the sine the gate's
   row (`Gate.stateK`) has. -/
module

public import proofs.«01_k».proof.Proof.Gate
public import proofs.«01_k».proof.Proof.Stripe
public import Idealize.ShloMosaic.Lib.Pointwise
public import Idealize.ShloMosaic.Lib.WholeRead

@[expose] public section

set_option maxRecDepth 16384

noncomputable section

namespace Cert.KernelIdeal.Rows

open Idealize.ShloMosaic Idealize.ShloMosaic.TcCoe Idealize.ShloMosaic.Tactic Cert.KernelIdeal.Gen Cert
open scoped BigOperators
open Idealize.ShloMosaic.Pointwise

/-! ## The named constants -/

theorem inv_pi : (Named.named κ "inv_pi" 0x3EA2F983#32 : Ideal .f32) = ((Real.pi⁻¹ : ℝ) : EReal) :=
  IdealRules.named_const.ideal_named_scalar _ _ _ _ rfl
theorem two_phi_over_pi : (Named.named κ "two_phi_over_pi" 0x3F83D96A#32 : Ideal .f32) = ((13573053 / 4194304 * Real.pi⁻¹ : ℝ) : EReal) :=
  IdealRules.named_const.ideal_named_scalar _ _ _ _ rfl
theorem inv_scale : (Named.named κ "inv_scale" 0x3CB504F3#32 : Ideal .f32) = (((Real.sqrt 2048)⁻¹ : ℝ) : EReal) :=
  IdealRules.named_const.ideal_named_scalar _ _ _ _ rfl

/-! ## A stripe's vectors at an index -/

theorem lane_apply {α : Type} (q : S1x2048.Idx → α) (r : Fin 8) (l : Fin 2048) :
    broadcastTo S8x2048 q broadcasts_S1x2048_S8x2048 (ix2 r l) = q (ix2 (0 : Fin 1) l) :=
  broadcastTo_apply _ _ _ _ fun a => by fin_cases a <;> rfl

theorem row_apply {α : Type} (u : S8x1.Idx → α) (r : Fin 8) (l : Fin 2048) :
    broadcastTo S8x2048 u broadcasts_S8x1_S8x2048 (ix2 r l) = u (ix2 r (0 : Fin 1)) :=
  broadcastTo_apply _ _ _ _ fun a => by fin_cases a <;> rfl

theorem column_apply {α : Type} (s : S8.Idx → α) (r : Fin 8) :
    shapeCast S8x1 s shapeCasts_S8_S8x1 (ix2 r (0 : Fin 1)) = s (ix1 r) :=
  shapeCast_apply _ _ _ _ (by rw [Shape.rowMajor_val_one, Shape.rowMajor_val_two]; show r.val = r.val * 1 + 0; omega)

theorem cos_apply (a : FVec Ideal S8x2048 .f32) (j : S8x2048.Idx) : Stripe.cos a j = Gate.cosK (a j) := by
  rw [Gate.cosK, ← Gate.word_c0, ← Gate.word_c1, ← Gate.word_c2]
  unfold Gate.flip
  rw [← Gate.word_zero]
  rfl

theorem sin_apply (a : FVec Ideal S8x2048 .f32) (j : S8x2048.Idx) : Stripe.sin a j = Gate.sinK (a j) := by
  rw [Gate.sinK, ← Gate.word_s0, ← Gate.word_s1, ← Gate.word_s2]
  unfold Gate.flip
  rw [← Gate.word_zero]
  rfl

theorem rate_apply (w : Vec Ideal S1x2048 .f32) (j : S1x2048.Idx) : Stripe.rate w j = Gate.rateK (w j) := by
  unfold Stripe.rate
  rw [shapeCast_self, inv_pi, Gate.rateK, Gate.span, ← Gate.word_one]
  rfl

theorem time_apply (t : Vec Ideal S8x1 .f32) (j : S8x1.Idx) : Stripe.time t j = Gate.timeK (t j) := by
  unfold Stripe.time
  rw [shapeCast_self, two_phi_over_pi]
  rfl

theorem halfRate_eq (k : Ideal .f32) : Stripe.halfRate (F := Ideal) k = Gate.rate k * ((1 / 2 : ℝ) : EReal) := by
  rw [Gate.rate, ← Gate.word_tenth, ← Gate.word_half]
  rfl

theorem turn_apply (s : FVec Ideal S8x2048 .f32) (q : FVec Ideal S1x2048 .f32) (u : FVec Ideal S8x1 .f32) (r : Fin 8) (l : Fin 2048) :
    Stripe.turn s q u (ix2 r l) = (s (ix2 r l) * q (ix2 (0 : Fin 1) l) + u (ix2 r (0 : Fin 1)) : EReal) := by
  rw [← lane_apply q r l, ← row_apply u r l]
  rfl

theorem inter_apply (xr xi : Vec Ideal S8x2048 .f32) (a : FVec Ideal S8x2048 .f32) (r : Fin 8) :
    Stripe.inter xr xi a (ix1 r) = ∑ l : Fin 2048,
      (Gate.cosK (a (ix2 r l)) * xr (ix2 r l) + Gate.sinK (a (ix2 r l)) * xi (ix2 r l) : EReal) := by
  unfold Stripe.inter
  refine (Ideal.multiReduction_add_single (φ := .f32) (a := 1) _ _ reduces_S8x2048_S8 _ _ (ix1 r)).trans ?_
  refine Finset.sum_congr rfl fun l _ => ?_
  have hl : reduces_S8x2048_S8.lift (ix1 r) l = ix2 r (l : Fin 2048) := by
    funext b; apply Fin.ext; fin_cases b <;> rfl
  rw [hl, ← cos_apply, ← sin_apply]
  rfl

theorem gate_apply (h : Ideal .f32) (s : FVec Ideal S8 .f32) (r : Fin 8) :
    Stripe.gate (F := Ideal) h s (ix2 r (0 : Fin 1)) = Ideal.exp (h * (min ((1 : ℝ) : EReal) (max ((-1 : ℝ) : EReal)
      (s (ix1 r) * (((Real.sqrt 2048)⁻¹ : ℝ) : EReal))) - ((1 : ℝ) : EReal)) : EReal) := by
  unfold Stripe.gate
  rw [inv_scale, ← column_apply s r, ← Gate.word_one, ← Gate.word_neg_one]
  rfl

theorem decayed_apply (g : FVec Ideal S8x1 .f32) (s : FVec Ideal S8x2048 .f32) (r : Fin 8) (l : Fin 2048) :
    mulf (broadcastTo S8x2048 g broadcasts_S8x1_S8x2048) s (ix2 r l) = (g (ix2 r (0 : Fin 1)) * s (ix2 r l) : EReal) := by
  rw [← row_apply g r l]
  rfl

theorem both_apply (xr xi : FVec Ideal S8x2048 .f32) (j : S8x2048.Idx) : addf xr xi j = (xr j + xi j : EReal) := rfl

/-- A stripe's state phase at a row and a lane is the gate's row there. -/
theorem state_apply (k : Elt Ideal .f32) (t : Vec Ideal S8x1 .f32) (xr xi : Vec Ideal S8x2048 .f32) (wt ws : Vec Ideal S1x2048 .f32)
    (r : Fin 8) (l : Fin 2048) :
    Stripe.state (F := Ideal) k t xr xi wt ws (ix2 r l)
      = Gate.stateK (fun l : Fin 2048 => xr (ix2 r l)) (fun l => xi (ix2 r l)) (t (ix2 r (0 : Fin 1)))
          (fun l => wt (ix2 (0 : Fin 1) l)) (fun l => ws (ix2 (0 : Fin 1) l)) k l := by
  unfold Stripe.state
  rw [turn_apply, rate_apply, time_apply, decayed_apply, gate_apply, inter_apply, halfRate_eq]
  simp only [turn_apply, rate_apply, time_apply, both_apply]
  rfl

/-! ## A block -/

/-- The state phase of a block's row at a lane, from the block's inputs. -/
def block (x0 : Vec Ideal S1 .f32) (x1 : Vec Ideal S512x1 .f32) (x2 x3 : Vec Ideal S512x2048 .f32) (x4 x5 : Vec Ideal S1x2048 .f32)
    (y : S512x2048.Idx) : EReal :=
  Gate.stateK (fun l : Fin 2048 => x2 (ix2 (y 0) l)) (fun l => x3 (ix2 (y 0) l)) (x1 (ix2 (y 0) (0 : Fin 1)))
    (fun l => x4 (ix2 (0 : Fin 1) l)) (fun l => x5 (ix2 (0 : Fin 1) l)) (x0 (ix1 (0 : Fin 1))) (y 1)

variable (c : Dev nD) (i : grid0.Coords) (arg1 : Memref sig .tc .smem S1 .f32) (harg1 : arg1.IsWhole) (arg2 : Memref sig .tc .vmem S512x1 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole)
variable (x0 : Vec Ideal S1 .f32) (x1 : Vec Ideal S512x1 .f32) (x2 : Vec Ideal S512x2048 .f32) (x3 : Vec Ideal S512x2048 .f32) (x4 : Vec Ideal S1x2048 .f32) (x5 : Vec Ideal S1x2048 .f32)

theorem rows_idx (k : Fin 64) (r : Fin 8) (l : Fin 2048) :
    (Stripe.rows k).toLoadRect.idx (ix2 r l) = ix2 ((Stripe.rows k).emb (ix2 r l) 0) l := by
  funext b; apply Fin.ext; fin_cases b
  · rfl
  · show 0 + 1 * l.val = l.val; omega

theorem column_idx (k : Fin 64) (r : Fin 8) (l : Fin 2048) :
    (Stripe.column k).toLoadRect.idx (ix2 r (0 : Fin 1)) = ix2 ((Stripe.rows k).emb (ix2 r l) 0) (0 : Fin 1) := by
  funext b; apply Fin.ext; fin_cases b <;> rfl

theorem lane_idx (l : Fin 2048) :
    (Rect.unit (s := S1x2048) ![0, 0] S1x2048.size inb_S1x2048_S1x2048_0_0).toLoadRect.idx (ix2 (0 : Fin 1) l) = ix2 (0 : Fin 1) l := by
  funext b; apply Fin.ext; fin_cases b
  · rfl
  · show 0 + 1 * l.val = l.val; omega

theorem only_idx (j : S1.Idx) : j = ix1 (0 : Fin 1) := by
  funext b; fin_cases b; exact Subsingleton.elim (α := Fin 1) _ _

/-- A stripe's state phase is its rows of the block's. -/
theorem loaded_apply (k : Fin 64) (j : S8x2048.Idx) :
    Stripe.loaded (F := Ideal) arg1 harg1 arg2 harg2 arg3 harg3 arg4 harg4 arg5 harg5 arg6 harg6 x0 x1 x2 x3 x4 x5 k j
      = block x0 x1 x2 x3 x4 x5 ((Stripe.rows k).emb j) := by
  obtain ⟨r, l, rfl⟩ : ∃ (r : Fin 8) (l : Fin 2048), j = ix2 r l := ⟨_, _, eq_ix2 j⟩
  have hl : (Stripe.rows k).emb (ix2 r l) 1 = l := Fin.ext (show 0 + 1 * l.val = l.val by omega)
  unfold Stripe.loaded
  rw [state_apply, block, hl]
  exact Gate.stateK_congr
    (fun l' => (harg3.readAt_unread x2 _ _).trans (congrArg x2 (rows_idx k r l')))
    (fun l' => (harg4.readAt_unread x3 _ _).trans (congrArg x3 (rows_idx k r l')))
    ((harg2.readAt_unread x1 _ _).trans (congrArg x1 (column_idx k r l)))
    (fun l' => (harg5.readAt_unread x4 _ _).trans (congrArg x4 (lane_idx l')))
    (fun l' => (harg6.readAt_unread x5 _ _).trans (congrArg x5 (lane_idx l')))
    ((harg1.readAt_unread x0 _ _).trans (congrArg x0 (only_idx _))) l

/-- Pieces that are the 64 stripes of one function of the block, read back over whatever lay there, are the function. -/
theorem stripes_read (v : View sig .tc .vmem S512x2048 .f32) (f : v.ty.Contents (Elt Ideal)) (G : S512x2048.Idx → EReal)
    (g : Fin 64 → S8x2048.Idx → EReal) (hg : ∀ k j, g k j = G ((Stripe.rows k).emb j))
    (L : List (View.Piece (Elt Ideal) S512x2048 .f32)) (hL : L = List.ofFn fun k : Fin 64 => ⟨Stripe.rows k.rev, g k.rev⟩)
    (cover : ∀ y, ∃ p ∈ L, y ∈ p.1.set) : v.read (Elt Ideal) (v.writes (Elt Ideal) f L) = G := by
  rw [View.read_writes_eq_canon _ _ _ cover]
  funext y
  refine View.canon_apply_of_pieces G L (fun p hp j => ?_) y (cover y)
  rw [hL, List.mem_ofFn] at hp
  obtain ⟨k, rfl⟩ := hp
  exact hg k.rev j
theorem real_block : out0_A_6 (F := Ideal) c i arg1 harg1 arg2 harg2 arg3 harg3 arg4 harg4 arg5 harg5 arg6 harg6 arg7 harg7 arg8 harg8 x0 x1 x2 x3 x4 x5
    = fun y => Gate.cosK (block x0 x1 x2 x3 x4 x5 y) := by
  unfold out0_A_6
  refine stripes_read _ _ (fun y => Gate.cosK (block x0 x1 x2 x3 x4 x5 y)) (fun k => Stripe.cos (Stripe.loaded (F := Ideal) arg1 harg1 arg2 harg2 arg3 harg3 arg4 harg4 arg5 harg5 arg6 harg6 x0 x1 x2 x3 x4 x5 k)) ?_ _ ?_ ?_
  · exact fun k j => (cos_apply _ j).trans (congrArg Gate.cosK (loaded_apply arg1 harg1 arg2 harg2 arg3 harg3 arg4 harg4 arg5 harg5 arg6 harg6 x0 x1 x2 x3 x4 x5 k j))
  · exact Stripe.pieces_real c i arg1 harg1 arg2 harg2 arg3 harg3 arg4 harg4 arg5 harg5 arg6 harg6 arg7 harg7 arg8 harg8 x0 x1 x2 x3 x4 x5
  · exact (cover0_A_6 (F := Ideal) c i arg1 harg1 arg2 harg2 arg3 harg3 arg4 harg4 arg5 harg5 arg6 harg6 arg7 harg7 arg8 harg8 x0 x1 x2 x3 x4 x5)

/-- The block of the second result: the sine of the state phase. -/
theorem imag_block : out0_A_7 (F := Ideal) c i arg1 harg1 arg2 harg2 arg3 harg3 arg4 harg4 arg5 harg5 arg6 harg6 arg7 harg7 arg8 harg8 x0 x1 x2 x3 x4 x5
    = fun y => Gate.sinK (block x0 x1 x2 x3 x4 x5 y) := by
  unfold out0_A_7
  refine stripes_read _ _ (fun y => Gate.sinK (block x0 x1 x2 x3 x4 x5 y)) (fun k => Stripe.sin (Stripe.loaded (F := Ideal) arg1 harg1 arg2 harg2 arg3 harg3 arg4 harg4 arg5 harg5 arg6 harg6 x0 x1 x2 x3 x4 x5 k)) ?_ _ ?_ ?_
  · exact fun k j => (sin_apply _ j).trans (congrArg Gate.sinK (loaded_apply arg1 harg1 arg2 harg2 arg3 harg3 arg4 harg4 arg5 harg5 arg6 harg6 x0 x1 x2 x3 x4 x5 k j))
  · exact Stripe.pieces_imag c i arg1 harg1 arg2 harg2 arg3 harg3 arg4 harg4 arg5 harg5 arg6 harg6 arg7 harg7 arg8 harg8 x0 x1 x2 x3 x4 x5
  · exact (cover0_A_7 (F := Ideal) c i arg1 harg1 arg2 harg2 arg3 harg3 arg4 harg4 arg5 harg5 arg6 harg6 arg7 harg7 arg8 harg8 x0 x1 x2 x3 x4 x5)

end Cert.KernelIdeal.Rows

end
-- ==== Proof.Arrays.lean ====
/- The kernel's two result arrays at the extended reals, as functions of the argument arrays: sixteen blocks of 512 rows,
   each row the gate's (`Gate.stateK`). -/
module

public import proofs.«01_k».proof.Proof.Rows
public import proofs.«01_k».proof.Proof.Gen.KernelIdeal.Value
public import Idealize.ShloMosaic.Lib.Pipeline.ValueKit.Geometry

@[expose] public section

set_option maxRecDepth 16384

noncomputable section

namespace Cert.KernelIdeal.Arrays

open Idealize.ShloMosaic Idealize.ShloMosaic.TcCoe Idealize.ShloMosaic.Tactic Cert.KernelIdeal.Gen Cert
open Idealize.ShloMosaic.Pipeline (Dat)

variable (m : (ℓ : Loc nD τ sig) → Buf (Elt Ideal) ℓ) (c : Dev nD)

/-! ## The four reshaped arguments as the kernel finds them -/

theorem V_v0 : V m c main_v0 = shapeCast S1x2048 (m ((c : Thread nD τ).loc main_arg5)) shapeCasts_S2048_S1x2048 := by
  show StableHlo.after hostOps0 _ (Proc.devRef .tc main_v0) = _
  after_results
  rfl
theorem V_v1 : V m c main_v1 = shapeCast S1x2048 (m ((c : Thread nD τ).loc main_arg7)) shapeCasts_S2048_S1x2048 := by
  show StableHlo.after hostOps0 _ (Proc.devRef .tc main_v1) = _
  after_results
  rfl
theorem V_v2 : V m c main_v2 = shapeCast S1 (m ((c : Thread nD τ).loc main_arg9)) shapeCasts_S_S1 := by
  show StableHlo.after hostOps0 _ (Proc.devRef .tc main_v2) = _
  after_results
  rfl
theorem V_v3 : V m c main_v3 = shapeCast S8192x1 (m ((c : Thread nD τ).loc main_arg2)) shapeCasts_S8192_S8192x1 := by
  show StableHlo.after hostOps0 _ (Proc.devRef .tc main_v3) = _
  after_results
  rfl

/-! ## The rows of a block -/

/-- Row `r` of block `t`. -/
def row (t : Fin cfg0.N) (r : Fin 512) : Fin 8192 :=
  ⟨t.val * 512 + r.val, by have := t.isLt; have h : cfg0.N = 16 := N_0; have := r.isLt; omega⟩

theorem off1 : ∀ t : Fin cfg0.N, win0_1.index t 0 * win0_1.size 0 = t.val * 512 ∧ win0_1.index t 1 * win0_1.size 1 = 0 :=
  (by decide +kernel : ∀ t : Fin grid0.N, win0_1.index t 0 * win0_1.size 0 = t.val * 512 ∧ win0_1.index t 1 * win0_1.size 1 = 0)

theorem emb1 (t : Fin cfg0.N) (r : Fin 512) (l : Fin 1) : (win0_1.blk t).view.emb (ix2 r l) = ix2 (row t r) l := by
  funext a; apply Fin.ext
  match a with
  | ⟨0, _⟩ => show win0_1.index t 0 * win0_1.size 0 + 1 * r.val = t.val * 512 + r.val; rw [(off1 t).1]; omega
  | ⟨1, _⟩ => show win0_1.index t 1 * win0_1.size 1 + 1 * l.val = l.val; rw [(off1 t).2]; omega

theorem off2 : ∀ t : Fin cfg0.N, win0_2.index t 0 * win0_2.size 0 = t.val * 512 ∧ win0_2.index t 1 * win0_2.size 1 = 0 :=
  (by decide +kernel : ∀ t : Fin grid0.N, win0_2.index t 0 * win0_2.size 0 = t.val * 512 ∧ win0_2.index t 1 * win0_2.size 1 = 0)

theorem emb2 (t : Fin cfg0.N) (r : Fin 512) (l : Fin 2048) : (win0_2.blk t).view.emb (ix2 r l) = ix2 (row t r) l := by
  funext a; apply Fin.ext
  match a with
  | ⟨0, _⟩ => show win0_2.index t 0 * win0_2.size 0 + 1 * r.val = t.val * 512 + r.val; rw [(off2 t).1]; omega
  | ⟨1, _⟩ => show win0_2.index t 1 * win0_2.size 1 + 1 * l.val = l.val; rw [(off2 t).2]; omega

theorem off3 : ∀ t : Fin cfg0.N, win0_3.index t 0 * win0_3.size 0 = t.val * 512 ∧ win0_3.index t 1 * win0_3.size 1 = 0 :=
  (by decide +kernel : ∀ t : Fin grid0.N, win0_3.index t 0 * win0_3.size 0 = t.val * 512 ∧ win0_3.index t 1 * win0_3.size 1 = 0)

theorem emb3 (t : Fin cfg0.N) (r : Fin 512) (l : Fin 2048) : (win0_3.blk t).view.emb (ix2 r l) = ix2 (row t r) l := by
  funext a; apply Fin.ext
  match a with
  | ⟨0, _⟩ => show win0_3.index t 0 * win0_3.size 0 + 1 * r.val = t.val * 512 + r.val; rw [(off3 t).1]; omega
  | ⟨1, _⟩ => show win0_3.index t 1 * win0_3.size 1 + 1 * l.val = l.val; rw [(off3 t).2]; omega

theorem off4 : ∀ t : Fin cfg0.N, win0_4.index t 0 * win0_4.size 0 = 0 ∧ win0_4.index t 1 * win0_4.size 1 = 0 :=
  (by decide +kernel : ∀ t : Fin grid0.N, win0_4.index t 0 * win0_4.size 0 = 0 ∧ win0_4.index t 1 * win0_4.size 1 = 0)

theorem emb4 (t : Fin cfg0.N) (l : Fin 2048) : (win0_4.blk t).view.emb (ix2 (0 : Fin 1) l) = ix2 (0 : Fin 1) l := by
  funext a; apply Fin.ext
  match a with
  | ⟨0, _⟩ => show win0_4.index t 0 * win0_4.size 0 + 1 * 0 = 0; rw [(off4 t).1]
  | ⟨1, _⟩ => show win0_4.index t 1 * win0_4.size 1 + 1 * l.val = l.val; rw [(off4 t).2]; omega

theorem off5 : ∀ t : Fin cfg0.N, win0_5.index t 0 * win0_5.size 0 = 0 ∧ win0_5.index t 1 * win0_5.size 1 = 0 :=
  (by decide +kernel : ∀ t : Fin grid0.N, win0_5.index t 0 * win0_5.size 0 = 0 ∧ win0_5.index t 1 * win0_5.size 1 = 0)

theorem emb5 (t : Fin cfg0.N) (l : Fin 2048) : (win0_5.blk t).view.emb (ix2 (0 : Fin 1) l) = ix2 (0 : Fin 1) l := by
  funext a; apply Fin.ext
  match a with
  | ⟨0, _⟩ => show win0_5.index t 0 * win0_5.size 0 + 1 * 0 = 0; rw [(off5 t).1]
  | ⟨1, _⟩ => show win0_5.index t 1 * win0_5.size 1 + 1 * l.val = l.val; rw [(off5 t).2]; omega

theorem off6 : ∀ t : Fin cfg0.N, win0_6.index t 0 * win0_6.size 0 = t.val * 512 ∧ win0_6.index t 1 * win0_6.size 1 = 0 :=
  (by decide +kernel : ∀ t : Fin grid0.N, win0_6.index t 0 * win0_6.size 0 = t.val * 512 ∧ win0_6.index t 1 * win0_6.size 1 = 0)

theorem emb6 (t : Fin cfg0.N) (r : Fin 512) (l : Fin 2048) : (win0_6.blk t).view.emb (ix2 r l) = ix2 (row t r) l := by
  funext a; apply Fin.ext
  match a with
  | ⟨0, _⟩ => show win0_6.index t 0 * win0_6.size 0 + 1 * r.val = t.val * 512 + r.val; rw [(off6 t).1]; omega
  | ⟨1, _⟩ => show win0_6.index t 1 * win0_6.size 1 + 1 * l.val = l.val; rw [(off6 t).2]; omega

theorem off7 : ∀ t : Fin cfg0.N, win0_7.index t 0 * win0_7.size 0 = t.val * 512 ∧ win0_7.index t 1 * win0_7.size 1 = 0 :=
  (by decide +kernel : ∀ t : Fin grid0.N, win0_7.index t 0 * win0_7.size 0 = t.val * 512 ∧ win0_7.index t 1 * win0_7.size 1 = 0)

theorem emb7 (t : Fin cfg0.N) (r : Fin 512) (l : Fin 2048) : (win0_7.blk t).view.emb (ix2 r l) = ix2 (row t r) l := by
  funext a; apply Fin.ext
  match a with
  | ⟨0, _⟩ => show win0_7.index t 0 * win0_7.size 0 + 1 * r.val = t.val * 512 + r.val; rw [(off7 t).1]; omega
  | ⟨1, _⟩ => show win0_7.index t 1 * win0_7.size 1 + 1 * l.val = l.val; rw [(off7 t).2]; omega

/-! ## The host's reshapes, read at an index -/

theorem reshape_scalar (x : S_.Idx → EReal) (h : Shape.ShapeCasts S_ S1) (j : S1.Idx) : shapeCast S1 x h j = x ix0 :=
  shapeCast_apply _ _ _ _ (by
    have h1 := (S1.rowMajor j).isLt
    have h0 := (S_.rowMajor ix0).isLt
    have e1 : S1.numel = 1 := by decide
    have e0 : S_.numel = 1 := by decide
    omega)

theorem reshape_column (x : S8192.Idx → EReal) (h : Shape.ShapeCasts S8192 S8192x1) (b : Fin 8192) :
    shapeCast S8192x1 x h (ix2 b (0 : Fin 1)) = x (ix1 b) :=
  shapeCast_apply _ _ _ _ (by rw [Shape.rowMajor_val_one, Shape.rowMajor_val_two]; show b.val = b.val * 1 + 0; omega)

theorem reshape_lane (x : S2048.Idx → EReal) (h : Shape.ShapeCasts S2048 S1x2048) (l : Fin 2048) :
    shapeCast S1x2048 x h (ix2 (0 : Fin 1) l) = x (ix1 l) :=
  shapeCast_apply _ _ _ _ (by rw [Shape.rowMajor_val_one, Shape.rowMajor_val_two]; show l.val = 0 * 2048 + l.val; omega)

/-! ## The blocks of the inputs -/

theorem iblk0 (t : Fin cfg0.N) : iblk m c 0 t (ix1 (0 : Fin 1)) = m ((c : Thread nD τ).loc main_arg9) ix0 := by
  show V m c main_v2 _ = _
  rw [V_v2]
  exact reshape_scalar _ _ _

theorem iblk1 (t : Fin cfg0.N) (r : Fin 512) : iblk m c 1 t (ix2 r (0 : Fin 1)) = m ((c : Thread nD τ).loc main_arg2) (ix1 (row t r)) := by
  show V m c main_v3 ((win0_1.blk t).view.emb (ix2 r (0 : Fin 1))) = _
  rw [V_v3, emb1]
  exact reshape_column _ _ _

theorem iblk2 (t : Fin cfg0.N) (r : Fin 512) (l : Fin 2048) : iblk m c 2 t (ix2 r l) = m ((c : Thread nD τ).loc main_arg0) (ix2 (row t r) l) := by
  show V m c main_arg0 ((win0_2.blk t).view.emb (ix2 r l)) = _
  rw [V_main_arg0, emb2]

theorem iblk3 (t : Fin cfg0.N) (r : Fin 512) (l : Fin 2048) : iblk m c 3 t (ix2 r l) = m ((c : Thread nD τ).loc main_arg1) (ix2 (row t r) l) := by
  show V m c main_arg1 ((win0_3.blk t).view.emb (ix2 r l)) = _
  rw [V_main_arg1, emb3]

theorem iblk4 (t : Fin cfg0.N) (l : Fin 2048) : iblk m c 4 t (ix2 (0 : Fin 1) l) = m ((c : Thread nD τ).loc main_arg5) (ix1 l) := by
  show V m c main_v0 ((win0_4.blk t).view.emb (ix2 (0 : Fin 1) l)) = _
  rw [V_v0, emb4]
  exact reshape_lane _ _ _

theorem iblk5 (t : Fin cfg0.N) (l : Fin 2048) : iblk m c 5 t (ix2 (0 : Fin 1) l) = m ((c : Thread nD τ).loc main_arg7) (ix1 l) := by
  show V m c main_v1 ((win0_5.blk t).view.emb (ix2 (0 : Fin 1) l)) = _
  rw [V_v1, emb5]
  exact reshape_lane _ _ _

/-! ## The result arrays -/

/-- The state phase of a batch row at a lane, from the argument arrays. -/
def phase (y : S8192x2048.Idx) : EReal :=
  Gate.stateK (fun l : Fin 2048 => m ((c : Thread nD τ).loc main_arg0) (ix2 (y 0) l)) (fun l => m ((c : Thread nD τ).loc main_arg1) (ix2 (y 0) l))
    (m ((c : Thread nD τ).loc main_arg2) (ix1 (y 0))) (fun l => m ((c : Thread nD τ).loc main_arg5) (ix1 l))
    (fun l => m ((c : Thread nD τ).loc main_arg7) (ix1 l)) (m ((c : Thread nD τ).loc main_arg9) ix0) (y 1)

theorem block_phase (t : Fin cfg0.N) (r : Fin 512) (l : Fin 2048) :
    Rows.block (iblk m c 0 t) (iblk m c 1 t) (iblk m c 2 t) (iblk m c 3 t) (iblk m c 4 t) (iblk m c 5 t) (ix2 r l)
      = phase m c (ix2 (row t r) l) :=
  Gate.stateK_congr (iblk2 m c t r) (iblk3 m c t r) (iblk1 m c t r) (iblk4 m c t) (iblk5 m c t) (iblk0 m c t) l

/-- The first result: the cosine of the state phase. -/
def realArray : S8192x2048.Idx → EReal := fun y => Gate.cosK (phase m c y)

theorem read_real (t : Fin cfg0.N) (j : S512x2048.Idx) :
    Gate.cosK (Rows.block (iblk m c 0 t) (iblk m c 1 t) (iblk m c 2 t) (iblk m c 3 t) (iblk m c 4 t) (iblk m c 5 t) j) = realArray m c ((win0_6.blk t).view.emb j) := by
  obtain ⟨r, l, rfl⟩ : ∃ (r : Fin 512) (l : Fin 2048), j = ix2 r l := ⟨_, _, eq_ix2 (n0 := 512) (n1 := 2048) j⟩
  exact congrArg Gate.cosK ((block_phase m c t r l).trans (congrArg (phase m c) (emb6 t r l).symm))

theorem cut_real (t : Fin cfg0.N) (f : S512x2048.Idx → EReal) (g : S8192x2048.Idx → EReal)
    (h : ∀ j : S512x2048.Idx, f j = g ((win0_6.blk t).view.emb j)) :
    (cfg0.win 6).cut (grid0.coords t) f = ((cfg0.win 6).blk t).view.read (Elt Ideal) g := by
  funext j
  exact h j

theorem out_real (t : Fin cfg0.N) : out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t)
    = fun y => Gate.cosK (Rows.block (iblk m c 0 t) (iblk m c 1 t) (iblk m c 2 t) (iblk m c 3 t) (iblk m c 4 t) (iblk m c 5 t) y) :=
  Rows.real_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t)

theorem flushed_real (t : Fin cfg0.N) : (dats m 0 c).flushed 6 t = ((cfg0.win 6).blk t).view.read (Elt Ideal) (realArray m c) := by
  rw [Value.flushed6_A, out_real]
  exact cut_real t _ (realArray m c) (read_real m c t)

/-- The second result: the sine of the state phase. -/
def imagArray : S8192x2048.Idx → EReal := fun y => Gate.sinK (phase m c y)

theorem read_imag (t : Fin cfg0.N) (j : S512x2048.Idx) :
    Gate.sinK (Rows.block (iblk m c 0 t) (iblk m c 1 t) (iblk m c 2 t) (iblk m c 3 t) (iblk m c 4 t) (iblk m c 5 t) j) = imagArray m c ((win0_7.blk t).view.emb j) := by
  obtain ⟨r, l, rfl⟩ : ∃ (r : Fin 512) (l : Fin 2048), j = ix2 r l := ⟨_, _, eq_ix2 (n0 := 512) (n1 := 2048) j⟩
  exact congrArg Gate.sinK ((block_phase m c t r l).trans (congrArg (phase m c) (emb7 t r l).symm))

theorem cut_imag (t : Fin cfg0.N) (f : S512x2048.Idx → EReal) (g : S8192x2048.Idx → EReal)
    (h : ∀ j : S512x2048.Idx, f j = g ((win0_7.blk t).view.emb j)) :
    (cfg0.win 7).cut (grid0.coords t) f = ((cfg0.win 7).blk t).view.read (Elt Ideal) g := by
  funext j
  exact h j

theorem out_imag (t : Fin cfg0.N) : out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t)
    = fun y => Gate.sinK (Rows.block (iblk m c 0 t) (iblk m c 1 t) (iblk m c 2 t) (iblk m c 3 t) (iblk m c 4 t) (iblk m c 5 t) y) :=
  Rows.imag_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t)

theorem flushed_imag (t : Fin cfg0.N) : (dats m 0 c).flushed 7 t = ((cfg0.win 7).blk t).view.read (Elt Ideal) (imagArray m c) := by
  rw [Value.flushed7_A, out_imag]
  exact cut_imag t _ (imagArray m c) (read_imag m c t)

theorem covers6 : (cfg0.win 6).Covers := by decide +kernel

theorem final_real : (dats m 0 c).arrAt 6 cfg0.N = realArray m c :=
  (dats m 0 c).arrAt_eq_of_cover 6 (realArray m c) (fun t _ => flushed_real m c t) (covers6.cover _ (Memref.isWhole_whole _))

theorem covers7 : (cfg0.win 7).Covers := by decide +kernel

theorem final_imag : (dats m 0 c).arrAt 7 cfg0.N = imagArray m c :=
  (dats m 0 c).arrAt_eq_of_cover 7 (imagArray m c) (fun t _ => flushed_imag m c t) (covers7.cover _ (Memref.isWhole_whole _))

end Cert.KernelIdeal.Arrays

end
-- ==== Proof.Host.lean ====
/- The reference's two result arrays at the extended reals, read at a batch row and a lane: the cosine and the sine of the
   state angle of that row (`Gate.stateH`). -/
module

public import proofs.«01_k».proof.Proof.Gate
public import proofs.«01_k».proof.Proof.Gen.ReferenceIdeal.Read
public import Idealize.ShloMosaic.Lib.Pointwise

@[expose] public section

set_option maxRecDepth 16384

noncomputable section

namespace Cert.ReferenceIdeal.Host

open Idealize.ShloMosaic Cert.ReferenceIdeal Cert.ReferenceIdeal.Gen Cert.ReferenceIdeal.Read Cert

/-! ## The approximants, over the words the program holds -/

def roundW (a : EReal) : EReal := Ideal.liftRound Ideal.roundHalfEven (Ideal.div a (Ideal.acos (Ideal.ofBits .f32 0xBF800000#32)))
def restW (a : EReal) : EReal := Ideal.div a (Ideal.acos (Ideal.ofBits .f32 0xBF800000#32)) - roundW a
def signW (n : EReal) : EReal :=
  Ideal.ofBits .f32 0x3F800000#32 - Ideal.ofBits .f32 0x40000000#32
    * (n - Ideal.ofBits .f32 0x40000000#32 * Ideal.liftRound Int.floor (Ideal.div n (Ideal.ofBits .f32 0x40000000#32)))
def cosW (a : EReal) : EReal :=
  signW (roundW a) * (Ideal.ofBits .f32 0x3F7FD874#32 + Ideal.ofBits .f32 0xC09C82D9#32 * (restW a * restW a)
    + Ideal.ofBits .f32 0x40654FA5#32 * (restW a * restW a * (restW a * restW a)))
def sinW (a : EReal) : EReal :=
  signW (roundW a) * (Ideal.ofBits .f32 0x40490026#32 * restW a + Ideal.ofBits .f32 0xC0A460C2#32 * (restW a * restW a * restW a)
    + Ideal.ofBits .f32 0x401326D7#32 * (restW a * (restW a * restW a * (restW a * restW a))))

theorem roundW_eq (a : EReal) : roundW a = Gate.roundH a := by rw [roundW, Gate.word_neg_one, Gate.roundH]
theorem restW_eq (a : EReal) : restW a = Gate.restH a := by rw [restW, roundW_eq, Gate.word_neg_one, Gate.restH]
theorem signW_eq (n : EReal) : signW n = Gate.signH n := by rw [signW, Gate.word_one, Gate.word_two, Gate.signH]
theorem cosW_eq (a : EReal) : cosW a = Gate.cosH a := by
  rw [cosW, signW_eq, roundW_eq, restW_eq, Gate.word_c0, Gate.word_c1, Gate.word_c2, Gate.cosH]
theorem sinW_eq (a : EReal) : sinW a = Gate.sinH a := by
  rw [sinW, signW_eq, roundW_eq, restW_eq, Gate.word_s0, Gate.word_s1, Gate.word_s2, Gate.sinH]

variable (x0 x1 : S8192x2048.Idx → EReal) (x2 : S8192.Idx → EReal) (x3 x4 : S8192x2048.Idx → EReal)
  (x5 x6 x7 x8 : S2048.Idx → EReal) (x9 : S_.Idx → EReal)

/-! ## The trigger -/

theorem trigger_cos (i : S8192x2048.Idx) :
    val_main_v50 (F := Ideal) x0 x1 x2 x5 x6 i = Gate.cosH (val_main_v23 (F := Ideal) x0 x1 x2 x5 x6 i) := by
  rw [← cosW_eq]; rfl
theorem trigger_sin (i : S8192x2048.Idx) :
    val_main_v81 (F := Ideal) x0 x1 x2 x5 x6 i = Gate.sinH (val_main_v23 (F := Ideal) x0 x1 x2 x5 x6 i) := by
  rw [← sinW_eq]; rfl

/-! ## The angles -/

theorem time_apply (b : Fin 8192) (j : S8192x1.Idx) (hj : j = ix2 b (0 : Fin 1)) : val_main_v3 (F := Ideal) x2 j = x2 (ix1 b) * (Gate.phi : EReal) := by
  subst hj
  rw [val_main_v3_apply, val_main_v1_apply, val_main_v2_apply, ← Gate.word_phi]
  exact congrArg (fun j => x2 j * _) (eq_ix1 (n0 := 8192) _)

theorem idx_time (b : Fin 8192) (l : Fin 2048) : idx_main_v13 (ix2 b l) = ix2 b (0 : Fin 1) := eq_ix2 (n0 := 8192) (n1 := 1) _

theorem idx_lane (b : Fin 8192) (l : Fin 2048) : idx_main_v7 (idx_main_v8 (ix2 b l)) = ix1 l := eq_ix1 (n0 := 2048) _

theorem span_apply (w : S2048.Idx → EReal) (j : S2048.Idx) : val_main_v6 (F := Ideal) w j = Gate.span (w j) := by
  rw [Gate.span, ← Gate.word_one]; rfl

theorem idx_bias (b : Fin 8192) (l : Fin 2048) : idx_main_v10 (idx_main_v11 (ix2 b l)) = ix1 l := eq_ix1 (n0 := 2048) _

theorem phase_apply (x : S8192x2048.Idx → EReal) (w v : S2048.Idx → EReal) (b : Fin 8192) (l : Fin 2048) :
    val_main_v14 (F := Ideal) x x2 w v (ix2 b l) = Gate.phaseH (x (ix2 b l)) (w (ix1 l)) (v (ix1 l)) (x2 (ix1 b)) := by
  rw [val_main_v14_apply, val_main_v12_apply, val_main_v9_apply, val_main_v8_apply, val_main_v7_apply, val_main_v11_apply,
    val_main_v10_apply, val_main_v13_apply, time_apply x2 b _ (idx_time b l), span_apply, idx_lane, idx_bias]
  rfl

/-- The angle that two signals, a weight and a bias give, as an array. -/
def angle (x y : S8192x2048.Idx → EReal) (w v : S2048.Idx → EReal) (i : S8192x2048.Idx) : EReal :=
  val_main_v14 (F := Ideal) x x2 w v i + val_main_v14 (F := Ideal) y x2 w v i

theorem angle_apply (x y : S8192x2048.Idx → EReal) (w v : S2048.Idx → EReal) (b : Fin 8192) (l : Fin 2048) :
    angle x2 x y w v (ix2 b l) = Gate.angleH (x (ix2 b l)) (y (ix2 b l)) (w (ix1 l)) (v (ix1 l)) (x2 (ix1 b)) := by
  rw [angle, phase_apply, phase_apply]; rfl

theorem trigger_angle : val_main_v23 (F := Ideal) x0 x1 x2 x5 x6 = angle x2 x0 x1 x5 x6 := rfl

/-! ## The interference and the gate -/

theorem idx_row (b : Fin 8192) (l : Fin 2048) : idx_main_v85 (ix1 b) l = ix2 b l := eq_ix2 (n0 := 8192) (n1 := 2048) _

theorem inter_apply (b : Fin 8192) : val_main_v85 (F := Ideal) x0 x1 x2 x5 x6 (ix1 b)
    = Gate.interH (fun l : Fin 2048 => x0 (ix2 b l)) (fun l => x1 (ix2 b l)) (x2 (ix1 b)) (fun l => x5 (ix1 l)) (fun l => x6 (ix1 l)) := by
  rw [val_main_v85_apply, Gate.interH]
  refine congrArg₂ (· + ·) Gate.word_zero (Finset.sum_congr rfl fun l _ => ?_)
  rw [idx_row, val_main_v84_apply, val_main_v82_apply, val_main_v83_apply, trigger_cos, trigger_sin, trigger_angle, angle_apply]
  rfl

/-- The gate of a row from its interference, over the words the program holds. -/
def gateW (s k : EReal) : EReal :=
  Ideal.exp (-(max k (-k) + Ideal.ofBits .f32 0x3DCCCCCD#32) * Ideal.div (Ideal.ofBits .f32 0x3F800000#32
    - min (Ideal.ofBits .f32 0x3F800000#32) (max (Ideal.ofBits .f32 0xBF800000#32) (Ideal.div s (Ideal.sqrt (Ideal.ofBits .f32 0x45000000#32)))))
      (Ideal.ofBits .f32 0x40000000#32))

theorem gate_words (b : S8192.Idx) : val_main_v98 (F := Ideal) x0 x1 x2 x5 x6 x9 b
    = gateW (val_main_v85 (F := Ideal) x0 x1 x2 x5 x6 b) (x9 ix0) := by
  have e : idx_main_v96 b = ix0 := funext fun a => a.elim0
  rw [val_main_v98_apply, val_main_v97_apply, val_main_v96_apply, val_main_v95_apply, val_main_v94_apply, val_main_v93_apply, e]
  rfl

theorem gate_apply (b : Fin 8192) : val_main_v98 (F := Ideal) x0 x1 x2 x5 x6 x9 (ix1 b)
    = Gate.gateH (fun l : Fin 2048 => x0 (ix2 b l)) (fun l => x1 (ix2 b l)) (x2 (ix1 b)) (fun l => x5 (ix1 l)) (fun l => x6 (ix1 l)) (x9 ix0) := by
  rw [gate_words, inter_apply, gateW, Gate.word_tenth, Gate.word_one, Gate.word_neg_one, Gate.word_2048, Gate.word_two]; rfl

/-! ## The state -/

theorem idx_gate (b : Fin 8192) (l : Fin 2048) : idx_main_v99 (idx_main_v100 (ix2 b l)) = ix1 b := eq_ix1 (n0 := 8192) _

/-- A signal blended with a memory by the gate, over the words the program holds. -/
theorem blend_apply (b : Fin 8192) (l : Fin 2048) : val_main_v106 (F := Ideal) x0 x1 x2 x3 x5 x6 x9 (ix2 b l)
    = Gate.blendH (val_main_v98 (F := Ideal) x0 x1 x2 x5 x6 x9 (ix1 b)) (x0 (ix2 b l)) (x3 (ix2 b l)) := by
  rw [val_main_v106_apply, val_main_v105_apply, val_main_v104_apply, val_main_v103_apply, val_main_v101_apply, val_main_v100_apply,
    val_main_v99_apply, idx_gate, Gate.blendH, ← Gate.word_one]
  rfl

theorem blend_imag_apply (b : Fin 8192) (l : Fin 2048) : val_main_v113 (F := Ideal) x0 x1 x2 x4 x5 x6 x9 (ix2 b l)
    = Gate.blendH (val_main_v98 (F := Ideal) x0 x1 x2 x5 x6 x9 (ix1 b)) (x1 (ix2 b l)) (x4 (ix2 b l)) := by
  rw [val_main_v113_apply, val_main_v112_apply, val_main_v111_apply, val_main_v110_apply, val_main_v108_apply, val_main_v107_apply,
    val_main_v99_apply, idx_gate, Gate.blendH, ← Gate.word_one]
  rfl

/-- The state angle of a batch row at a lane, from the reference's arguments. -/
def state (y : S8192x2048.Idx) : EReal :=
  Gate.stateH (fun l : Fin 2048 => x0 (ix2 (y 0) l)) (fun l => x1 (ix2 (y 0) l)) (x2 (ix1 (y 0))) (fun l => x5 (ix1 l)) (fun l => x6 (ix1 l))
    (fun l => x7 (ix1 l)) (fun l => x8 (ix1 l)) (fun l => x3 (ix2 (y 0) l)) (fun l => x4 (ix2 (y 0) l)) (x9 ix0) (y 1)

theorem state_angle : val_main_v133 (F := Ideal) x0 x1 x2 x3 x4 x5 x6 x7 x8 x9
    = angle x2 (val_main_v106 (F := Ideal) x0 x1 x2 x3 x5 x6 x9) (val_main_v113 (F := Ideal) x0 x1 x2 x4 x5 x6 x9) x7 x8 := rfl

theorem state_apply (b : Fin 8192) (l : Fin 2048) :
    val_main_v133 (F := Ideal) x0 x1 x2 x3 x4 x5 x6 x7 x8 x9 (ix2 b l) = state x0 x1 x2 x3 x4 x5 x6 x7 x8 x9 (ix2 b l) := by
  rw [state_angle, angle_apply, blend_apply, blend_imag_apply, gate_apply]; rfl

theorem real_value : val_main_v160 (F := Ideal) x0 x1 x2 x3 x4 x5 x6 x7 x8 x9 = fun y => Gate.cosH (state x0 x1 x2 x3 x4 x5 x6 x7 x8 x9 y) := by
  funext y
  obtain ⟨b, l, rfl⟩ : ∃ (b : Fin 8192) (l : Fin 2048), y = ix2 b l := ⟨_, _, eq_ix2 (n0 := 8192) (n1 := 2048) y⟩
  rw [← state_apply, ← cosW_eq]; rfl

theorem imag_value : val_main_v191 (F := Ideal) x0 x1 x2 x3 x4 x5 x6 x7 x8 x9 = fun y => Gate.sinH (state x0 x1 x2 x3 x4 x5 x6 x7 x8 x9 y) := by
  funext y
  obtain ⟨b, l, rfl⟩ : ∃ (b : Fin 8192) (l : Fin 2048), y = ix2 b l := ⟨_, _, eq_ix2 (n0 := 8192) (n1 := 2048) y⟩
  rw [← state_apply, ← sinW_eq]; rfl

end Cert.ReferenceIdeal.Host

end
-- ==== Proof.Range.lean ====
/- What the precondition says of the argument arrays at the extended reals, and from it the equality of the kernel's row
   with the reference's: the two signals and the time are reals of magnitude at most 10⁹, memories and biases are zero. -/
module

public import proofs.«01_k».proof.Defs
public import proofs.«01_k».proof.Proof.Gen.Pre_in_range
public import proofs.«01_k».proof.Proof.Arrays
public import proofs.«01_k».proof.Proof.Host

@[expose] public section

noncomputable section

namespace Cert.Range

open Idealize.ShloMosaic Cert Cert.Pre_in_range

/-- An extended real whose magnitude compares at most 10⁹ is a real of that magnitude. -/
theorem real_of_le {x : EReal} (h : Ideal.cmp .ole (max x (-x)) (Ideal.ofBits .f32 0x4E6E6B28#32) = 1#1) :
    ∃ a : ℝ, x = (a : EReal) ∧ |a| ≤ Gate.lim := by
  have h' : max x (-x) ≤ ((1000000000 : ℝ) : EReal) := by
    rw [Gate.word_range] at h
    by_contra hc
    simp [Ideal.cmp, hc] at h
  have h1 : x ≤ ((1000000000 : ℝ) : EReal) := (le_max_left _ _).trans h'
  have h2 : -x ≤ ((1000000000 : ℝ) : EReal) := (le_max_right _ _).trans h'
  induction x with
  | bot => simp at h2
  | top => simp at h1
  | coe a =>
    refine ⟨a, rfl, abs_le.mpr ⟨?_, ?_⟩⟩
    · rw [← EReal.coe_neg, EReal.coe_le_coe_iff] at h2; show -(1000000000 : ℝ) ≤ a; linarith
    · exact EReal.coe_le_coe_iff.mp h1

theorem zero_of_eq {x : EReal} (h : Ideal.cmp .oeq x (Ideal.ofBits .f32 0x00000000#32) = 1#1) : x = ((0 : ℝ) : EReal) := by
  rw [Gate.word_zero] at h
  by_contra hc
  rw [Ideal.cmp, decide_eq_false hc] at h
  exact absurd h (by decide)

variable (x0 x1 : S8192x2048.Idx → EReal) (x2 : S8192.Idx → EReal) (x3 x4 : S8192x2048.Idx → EReal)
  (x5 x6 x7 x8 : S2048.Idx → EReal) (x9 : S_.Idx → EReal)

/-- The precondition, read. -/
structure InRange : Prop where
  signal_real : ∀ i, ∃ a : ℝ, x0 i = (a : EReal) ∧ |a| ≤ Gate.lim
  signal_imag : ∀ i, ∃ a : ℝ, x1 i = (a : EReal) ∧ |a| ≤ Gate.lim
  time : ∀ i, ∃ a : ℝ, x2 i = (a : EReal) ∧ |a| ≤ Gate.lim
  memory_real : ∀ i, x3 i = ((0 : ℝ) : EReal)
  memory_imag : ∀ i, x4 i = ((0 : ℝ) : EReal)
  bias_trigger : ∀ i, x6 i = ((0 : ℝ) : EReal)
  bias_state : ∀ i, x8 i = ((0 : ℝ) : EReal)

variable {x0 x1 x2 x3 x4 x6 x8}

/-- In range, a row of the kernel is the row of the reference, both over the same reals. -/
theorem rows (h : InRange x0 x1 x2 x3 x4 x6 x8) (b : Fin 8192) (l : Fin 2048) :
    ∃ (xr xi : Fin 2048 → ℝ) (t : ℝ), (∀ l, x0 (ix2 b l) = (xr l : EReal)) ∧ (∀ l, x1 (ix2 b l) = (xi l : EReal)) ∧ x2 (ix1 b) = (t : EReal) ∧
    (Gate.cosK (Gate.stateK (fun l => x0 (ix2 b l)) (fun l => x1 (ix2 b l)) (x2 (ix1 b)) (fun l => x5 (ix1 l)) (fun l => x7 (ix1 l)) (x9 ix0) l)
        = ((Gate.cosP (Gate.state xr xi t (fun l => x5 (ix1 l)) (fun l => x7 (ix1 l)) (x9 ix0) l) : ℝ) : EReal)
      ∧ Gate.sinK (Gate.stateK (fun l => x0 (ix2 b l)) (fun l => x1 (ix2 b l)) (x2 (ix1 b)) (fun l => x5 (ix1 l)) (fun l => x7 (ix1 l)) (x9 ix0) l)
        = ((Gate.sinP (Gate.state xr xi t (fun l => x5 (ix1 l)) (fun l => x7 (ix1 l)) (x9 ix0) l) : ℝ) : EReal))
    ∧ Gate.cosH (ReferenceIdeal.Host.state x0 x1 x2 x3 x4 x5 x6 x7 x8 x9 (ix2 b l))
        = ((Gate.cosP (Gate.state xr xi t (fun l => x5 (ix1 l)) (fun l => x7 (ix1 l)) (x9 ix0) l) : ℝ) : EReal)
      ∧ Gate.sinH (ReferenceIdeal.Host.state x0 x1 x2 x3 x4 x5 x6 x7 x8 x9 (ix2 b l))
        = ((Gate.sinP (Gate.state xr xi t (fun l => x5 (ix1 l)) (fun l => x7 (ix1 l)) (x9 ix0) l) : ℝ) : EReal) := by
  choose xr hxr hr using fun l : Fin 2048 => h.signal_real (ix2 b l)
  choose xi hxi hi using fun l : Fin 2048 => h.signal_imag (ix2 b l)
  obtain ⟨t, hxt, ht⟩ := h.time (ix1 b)
  refine ⟨xr, xi, t, hxr, hxi, hxt, ?_, ?_⟩
  · rw [funext hxr, funext hxi, hxt]
    exact Gate.kernel_row _ _ _ hr hi ht l
  · have e : ReferenceIdeal.Host.state x0 x1 x2 x3 x4 x5 x6 x7 x8 x9 (ix2 b l)
        = Gate.stateH (fun l => (xr l : EReal)) (fun l => (xi l : EReal)) (t : EReal) (fun l => x5 (ix1 l)) (fun _ => ((0 : ℝ) : EReal))
          (fun l => x7 (ix1 l)) (fun _ => ((0 : ℝ) : EReal)) (fun _ => ((0 : ℝ) : EReal)) (fun _ => ((0 : ℝ) : EReal)) (x9 ix0) l := by
      show Gate.stateH (fun l : Fin 2048 => x0 (ix2 b l)) (fun l => x1 (ix2 b l)) (x2 (ix1 b)) (fun l => x5 (ix1 l)) (fun l => x6 (ix1 l))
        (fun l => x7 (ix1 l)) (fun l => x8 (ix1 l)) (fun l => x3 (ix2 b l)) (fun l => x4 (ix2 b l)) (x9 ix0) l = _
      rw [funext hxr, funext hxi, hxt, funext fun l : Fin 2048 => h.bias_trigger (ix1 l), funext fun l : Fin 2048 => h.bias_state (ix1 l),
        funext fun l : Fin 2048 => h.memory_real (ix2 b l), funext fun l : Fin 2048 => h.memory_imag (ix2 b l)]
    rw [e]
    exact Gate.host_row ..

/-- The precondition of the launch arrays, read. -/
theorem of_pre [Pre_in_range.Facts] {m : (ℓ : Loc KernelIdeal.nD KernelIdeal.τ KernelIdeal.sig) → Buf (Elt Ideal) ℓ}
    (h : Pre_KernelIdeal_in_range m) (c : Dev KernelIdeal.nD) :
    InRange (m ((c.tc : Thread KernelIdeal.nD KernelIdeal.τ).loc KernelIdeal.main_arg0)) (m ((c.tc : Thread KernelIdeal.nD KernelIdeal.τ).loc KernelIdeal.main_arg1))
      (m ((c.tc : Thread KernelIdeal.nD KernelIdeal.τ).loc KernelIdeal.main_arg2)) (m ((c.tc : Thread KernelIdeal.nD KernelIdeal.τ).loc KernelIdeal.main_arg3))
      (m ((c.tc : Thread KernelIdeal.nD KernelIdeal.τ).loc KernelIdeal.main_arg4)) (m ((c.tc : Thread KernelIdeal.nD KernelIdeal.τ).loc KernelIdeal.main_arg6))
      (m ((c.tc : Thread KernelIdeal.nD KernelIdeal.τ).loc KernelIdeal.main_arg8)) := by
  obtain ⟨h0, h1, h2, h3, h4, h6, h8⟩ := h c
  exact ⟨fun i => real_of_le (congrFun h0 i), fun i => real_of_le (congrFun h1 i), fun i => real_of_le (congrFun h2 i),
    fun i => zero_of_eq (congrFun h3 i), fun i => zero_of_eq (congrFun h4 i), fun i => zero_of_eq (congrFun h6 i), fun i => zero_of_eq (congrFun h8 i)⟩

end Cert.Range

end
-- ==== Proof.Near.lean ====
/- How far the polynomial approximants of a half turn's cosine and sine are from the cosine and the sine themselves: a
   thousandth at most, for every argument. The two functions are taken from the exponential's series (`taylor`), the circle's
   constant from the cosine's sign (`pi_near`), and the difference of two polynomials in the square of the rest is bounded
   as a sum of products that are not negative (`quartic`, `quintic`). -/
module

public import Idealize.ShloMosaic.PureOps.Ideal.Laws
public import proofs.«01_k».proof.Proof.Gate

@[expose] public section

noncomputable section

namespace Cert.Near

open Real

/-- The cosine's series, up to the tenth power. -/
def cosT (x : ℝ) : ℝ :=
  1 - x ^ 2 / 2 + x ^ 4 / 24 - x ^ 6 / 720 + x ^ 8 / 40320 - x ^ 10 / 3628800

/-- The sine's series, up to the eleventh power. -/
def sinT (x : ℝ) : ℝ :=
  x - x ^ 3 / 6 + x ^ 5 / 120 - x ^ 7 / 5040 + x ^ 9 / 362880 - x ^ 11 / 39916800

/-- Both series are the real and imaginary part of the exponential's series at `x i`. -/
theorem series (x : ℝ) :
    ∑ m ∈ Finset.range 12, ((x : ℂ) * Complex.I) ^ m / (m.factorial : ℂ)
      = (cosT x : ℂ) + (sinT x : ℂ) * Complex.I := by
  have h2 : Complex.I ^ 2 = -1 := Complex.I_sq
  have h3 : Complex.I ^ 3 = -Complex.I := Complex.I_pow_three
  have h4 : Complex.I ^ 4 = 1 := Complex.I_pow_four
  have h5 : Complex.I ^ 5 = Complex.I := by rw [pow_succ, h4, one_mul]
  have h6 : Complex.I ^ 6 = -1 := by rw [pow_add Complex.I 4 2, h4, h2, one_mul]
  have h7 : Complex.I ^ 7 = -Complex.I := by rw [pow_add Complex.I 4 3, h4, h3, one_mul]
  have h8 : Complex.I ^ 8 = 1 := by rw [pow_add Complex.I 4 4, h4, one_mul]
  have h9 : Complex.I ^ 9 = Complex.I := by rw [pow_succ, h8, one_mul]
  have h10 : Complex.I ^ 10 = -1 := by rw [pow_add Complex.I 8 2, h8, h2, one_mul]
  have h11 : Complex.I ^ 11 = -Complex.I := by rw [pow_add Complex.I 8 3, h8, h3, one_mul]
  simp only [Finset.sum_range_succ, Finset.sum_range_zero, mul_pow, h2, h3, h4, h5, h6, h7, h8, h9,
    h10, h11, Nat.factorial, cosT, sinT]
  push_cast
  ring

/-- How close the two series are. -/
theorem taylor (x : ℝ) (h : |x| ≤ 8 / 5) :
    |cos x - cosT x| ≤ 1 / 100000 ∧ |sin x - sinT x| ≤ 1 / 100000 := by
  have hn : ‖(x : ℂ) * Complex.I‖ = |x| := by simp
  have hb := Complex.exp_bound' (x := (x : ℂ) * Complex.I) (n := 12) (by
    rw [hn]; push_cast; linarith)
  rw [series, hn] at hb
  have hp : |x| ^ 12 / (Nat.factorial 12 : ℝ) * 2 ≤ 1 / 100000 := by
    have : |x| ^ 12 ≤ (8 / 5) ^ 12 := pow_le_pow_left₀ (abs_nonneg _) h 12
    norm_num [Nat.factorial] at this ⊢
    linarith
  have e : Complex.exp ((x : ℂ) * Complex.I) - ((cosT x : ℂ) + (sinT x : ℂ) * Complex.I)
      = ((cos x - cosT x : ℝ) : ℂ) + ((sin x - sinT x : ℝ) : ℂ) * Complex.I := by
    rw [Complex.exp_mul_I]; push_cast; ring
  rw [e] at hb
  have hb := hb.trans hp
  constructor
  · have := (Complex.abs_re_le_norm _).trans hb
    rwa [Complex.add_re, Complex.ofReal_re, Complex.re_ofReal_mul, Complex.I_re, mul_zero, add_zero] at this
  · have := (Complex.abs_im_le_norm _).trans hb
    rwa [Complex.add_im, Complex.ofReal_im, Complex.im_ofReal_mul, Complex.I_im, mul_one, zero_add] at this

/-- Half of the circle's constant, to four places: just below it the cosine is positive and just
above it negative. -/
theorem pi_near : |π - 3927 / 1250| ≤ 1 / 10000 := by
  have h1 := (taylor (157075 / 100000) (by rw [abs_of_nonneg] <;> norm_num)).1
  have h2 := (taylor (157085 / 100000) (by rw [abs_of_nonneg] <;> norm_num)).1
  have g := Gate.le_pi
  rw [abs_le] at h1 h2 ⊢
  have p1 : 0 < cos (157075 / 100000) := by
    have : (1 : ℝ) / 100000 < cosT (157075 / 100000) := by unfold cosT; norm_num
    linarith [h1.1]
  have p2 : cos (157085 / 100000) < 0 := by
    have : cosT (157085 / 100000) < -(1 : ℝ) / 100000 := by unfold cosT; norm_num
    linarith [h2.2]
  have a : 157075 / 100000 < π / 2 := by
    by_contra hc
    have := cos_nonpos_of_pi_div_two_le_of_le (x := 157075 / 100000) (by linarith) (by linarith)
    linarith
  have b : π / 2 < 157085 / 100000 := by
    by_contra hc
    have := cos_nonneg_of_neg_pi_div_two_le_of_le (x := 157085 / 100000) (by linarith) (by linarith)
    linarith
  constructor <;> linarith

/-- The powers of two numbers that are not negative, over one interval. -/
theorem bern {a b q : ℝ} (h1 : a ≤ q) (h2 : q ≤ b) (i j : ℕ) :
    0 ≤ (q - a) ^ i * (b - q) ^ j :=
  mul_nonneg (pow_nonneg (by linarith) _) (pow_nonneg (by linarith) _)

/-- The cosine's quartic is within a thousandth (here 0.0009) of its series on half a turn. -/
theorem quartic {q : ℝ} (h0 : 0 ≤ q) (h1 : q ≤ 1 / 4) :
    |Gate.c0 + Gate.c1 * q + Gate.c2 * q ^ 2 - (1 - (3927 / 1250) ^ 2 * q / 2 + (3927 / 1250) ^ 4 * q ^ 2 / 24
      - (3927 / 1250) ^ 6 * q ^ 3 / 720 + (3927 / 1250) ^ 8 * q ^ 4 / 40320 - (3927 / 1250) ^ 10 * q ^ 5 / 3628800)|
      ≤ 9 / 10000 := by
  rw [abs_le]
  unfold Gate.c0 Gate.c1 Gate.c2
  rcases le_total q (1 / 8) with h | h
  · have b := fun i j => bern h0 h i j
    constructor <;> linarith [b 0 6, b 1 5, b 2 4, b 3 3, b 4 2, b 5 1, b 6 0]
  · have b := fun i j => bern h h1 i j
    constructor <;> linarith [b 0 6, b 1 5, b 2 4, b 3 3, b 4 2, b 5 1, b 6 0]

/-- The sine's quintic, one power taken out, likewise (its own factor is at most a half). -/
theorem quintic {q : ℝ} (h0 : 0 ≤ q) (h1 : q ≤ 1 / 4) :
    |Gate.s0 + Gate.s1 * q + Gate.s2 * q ^ 2 - (3927 / 1250 - (3927 / 1250) ^ 3 * q / 6 + (3927 / 1250) ^ 5 * q ^ 2 / 120
      - (3927 / 1250) ^ 7 * q ^ 3 / 5040 + (3927 / 1250) ^ 9 * q ^ 4 / 362880 - (3927 / 1250) ^ 11 * q ^ 5 / 39916800)|
      ≤ 3 / 2000 := by
  rw [abs_le]
  unfold Gate.s0 Gate.s1 Gate.s2
  have b := fun i j => bern h0 h1 i j
  constructor <;> linarith [b 0 6, b 1 5, b 2 4, b 3 3, b 4 2, b 5 1, b 6 0]

theorem abs_sin_le (x : ℝ) : |sin x| ≤ |x| := by
  rcases le_total |x| 1 with h | h
  · have hb := sin_bound h
    have a0 := abs_nonneg x
    have e : |x - x ^ 3 / 6| ≤ |x| - |x| ^ 3 / 6 := by
      rcases abs_cases x with ⟨e, _⟩ | ⟨e, _⟩ <;> rw [e, abs_le] <;> rw [e] at h a0 <;>
        constructor <;> nlinarith [mul_nonneg a0 a0, mul_nonneg (mul_nonneg a0 a0) a0, mul_nonneg (sub_nonneg.2 h) a0,
          mul_nonneg (mul_nonneg (sub_nonneg.2 h) a0) a0]
    have t : |sin x| ≤ |sin x - (x - x ^ 3 / 6)| + |x - x ^ 3 / 6| := by
      have := abs_add_le (sin x - (x - x ^ 3 / 6)) (x - x ^ 3 / 6)
      rwa [sub_add_cancel] at this
    have : |x| ^ 4 ≤ |x| ^ 3 := by
      have := mul_le_mul_of_nonneg_left h (pow_nonneg a0 3)
      rw [mul_one] at this
      calc |x| ^ 4 = |x| ^ 3 * |x| := by ring
        _ ≤ _ := this
    nlinarith [pow_nonneg a0 3]
  · exact (abs_sin_le_one x).trans h

theorem cos_lip (x y : ℝ) : |cos x - cos y| ≤ |x - y| := by
  rw [cos_sub_cos, abs_mul, abs_mul]
  have h1 := abs_sin_le_one ((x + y) / 2)
  have h2 := abs_sin_le ((x - y) / 2)
  rw [abs_div, abs_two] at h2
  rw [abs_neg, abs_two]
  nlinarith [abs_nonneg (sin ((x + y) / 2)), abs_nonneg (sin ((x - y) / 2))]

theorem sin_lip (x y : ℝ) : |sin x - sin y| ≤ |x - y| := by
  rw [sin_sub_sin, abs_mul, abs_mul]
  have h1 := abs_cos_le_one ((x + y) / 2)
  have h2 := abs_sin_le ((x - y) / 2)
  rw [abs_div, abs_two] at h2
  rw [abs_two]
  nlinarith [abs_nonneg (cos ((x + y) / 2)), abs_nonneg (sin ((x - y) / 2))]

theorem angle_near {r : ℝ} (h : |r| ≤ 1 / 2) : |π * r - 3927 / 1250 * r| ≤ 1 / 20000 := by
  rw [← sub_mul, abs_mul]
  nlinarith [pi_near, abs_nonneg r, abs_nonneg (π - 3927 / 1250)]

theorem abs_angle {r : ℝ} (h : |r| ≤ 1 / 2) : |3927 / 1250 * r| ≤ 8 / 5 := by
  rw [abs_mul, abs_of_nonneg (by norm_num : (0 : ℝ) ≤ 3927 / 1250)]
  linarith

theorem sq_rest {r : ℝ} (h : |r| ≤ 1 / 2) : r ^ 2 ≤ 1 / 4 := by
  rw [← sq_abs]
  nlinarith [abs_nonneg r]

/-- The cosine's polynomial on half a turn either way. -/
theorem cos_rest {r : ℝ} (h : |r| ≤ 1 / 2) :
    |Gate.c0 + Gate.c1 * r ^ 2 + Gate.c2 * r ^ 4 - cos (π * r)| ≤ 1 / 1000 := by
  have a := (cos_lip _ _).trans (angle_near h)
  have b := (taylor _ (abs_angle h)).1
  have c := quartic (sq_nonneg r) (sq_rest h)
  unfold cosT at b
  rw [abs_le] at a b c ⊢
  constructor <;> linarith [a.1, a.2, b.1, b.2, c.1, c.2]

/-- The sine's polynomial on half a turn either way. -/
theorem sin_rest {r : ℝ} (h : |r| ≤ 1 / 2) :
    |Gate.s0 * r + Gate.s1 * r ^ 3 + Gate.s2 * r ^ 5 - sin (π * r)| ≤ 1 / 1000 := by
  have a := (sin_lip _ _).trans (angle_near h)
  have b := (taylor _ (abs_angle h)).2
  have c := quintic (sq_nonneg r) (sq_rest h)
  have d := (mul_le_mul h c (abs_nonneg _) (by norm_num)).trans (by norm_num : (1 / 2 : ℝ) * (3 / 2000) ≤ 15 / 20000)
  rw [← abs_mul] at d
  unfold sinT at b
  rw [abs_le] at a b d ⊢
  constructor <;> linarith [a.1, a.2, b.1, b.2, d.1, d.2]

theorem sgn_eq (n : ℤ) : Gate.sgn n = (-1) ^ n := by
  unfold Gate.sgn
  split
  · next h => rw [h.neg_one_zpow]
  · next h => rw [(Int.not_odd_iff_even.1 h).neg_one_zpow]

theorem abs_sgn (n : ℤ) : |Gate.sgn n| = 1 := by
  unfold Gate.sgn
  split <;> simp

/-- A whole argument: the nearest integer of half turns is the sign, the rest is on half a turn. -/
theorem cosP_near (u : ℝ) : |Gate.cosP u - cos (π * u)| ≤ 1 / 1000 := by
  have e : cos (π * u) = Gate.sgn (Gate.turns u) * cos (π * Gate.rest u) := by
    rw [sgn_eq, ← cos_add_int_mul_pi, Gate.rest]
    congr 1; ring
  rw [e, Gate.cosP, ← mul_sub, abs_mul, abs_sgn, one_mul]
  exact cos_rest (Gate.abs_rest_le u)

theorem sinP_near (u : ℝ) : |Gate.sinP u - sin (π * u)| ≤ 1 / 1000 := by
  have e : sin (π * u) = Gate.sgn (Gate.turns u) * sin (π * Gate.rest u) := by
    rw [sgn_eq, ← sin_add_int_mul_pi, Gate.rest]
    congr 1; ring
  rw [e, Gate.sinP, ← mul_sub, abs_mul, abs_sgn, one_mul]
  exact sin_rest (Gate.abs_rest_le u)

end Cert.Near
-- ==== Proof.NearRow.lean ====
/- One row: how far the kernel's state is from the state of the exact sine and cosine. -/
module

public import proofs.«01_k».proof.Proof.Near

@[expose] public section

noncomputable section

namespace Cert.Near

open Real

theorem exp_lip {a b : ℝ} (ha : a ≤ 0) (hb : b ≤ 0) : |rexp a - rexp b| ≤ |a - b| := by
  have key : ∀ {x y : ℝ}, y ≤ 0 → x ≤ y → rexp y - rexp x ≤ y - x := by
    intro x y hy hxy
    have e : rexp x = rexp y * rexp (x - y) := by rw [← exp_add]; congr 1; ring
    have h1 := add_one_le_exp (x - y)
    have h2 : rexp y ≤ 1 := exp_le_one_iff.2 hy
    nlinarith [exp_pos y]
  rcases le_total a b with h | h
  · rw [abs_sub_comm, abs_sub_comm a, abs_of_nonneg (sub_nonneg.2 (exp_le_exp.2 h)), abs_of_nonneg (sub_nonneg.2 h)]
    exact key hb h
  · rw [abs_of_nonneg (sub_nonneg.2 (exp_le_exp.2 h)), abs_of_nonneg (sub_nonneg.2 h)]
    exact key ha h

/-- How far a gate moves at most when its interference moves by twice `d`. -/
def slack (k : EReal) (d : ℝ) : ℝ := (min (Gate.rate k * (d : EReal)) ((1 : ℝ) : EReal)).toReal

theorem slack_spec (k : EReal) {d : ℝ} (h : 0 ≤ d) :
    min (Gate.rate k * (d : EReal)) ((1 : ℝ) : EReal) = (slack k d : EReal) ∧ 0 ≤ slack k d := by
  have h0 : (0 : EReal) ≤ Gate.rate k * (d : EReal) := mul_nonneg (Gate.rate_nonneg k) (by exact_mod_cast h)
  have h1 : (0 : EReal) ≤ min (Gate.rate k * (d : EReal)) ((1 : ℝ) : EReal) := le_min h0 (by exact_mod_cast zero_le_one)
  refine ⟨(EReal.coe_toReal ?_ ?_).symm, EReal.toReal_nonneg h1⟩
  · exact ((min_le_right _ _).trans_lt (EReal.coe_lt_top 1)).ne
  · exact (lt_of_lt_of_le EReal.bot_lt_zero h1).ne'

theorem decay_near (k : EReal) {c c' d : ℝ} (hc : c ≤ 1) (hc' : c' ≤ 1) (h : |c - c'| / 2 ≤ d) :
    |Gate.decay k c - Gate.decay k c'| ≤ slack k d := by
  obtain ⟨-, p0, p1⟩ := Gate.decay_spec k hc
  obtain ⟨-, q0, q1⟩ := Gate.decay_spec k hc'
  have hd : 0 ≤ d := le_trans (by positivity) h
  have one : |Gate.decay k c - Gate.decay k c'| ≤ 1 := abs_le.2 ⟨by linarith, by linarith⟩
  have r0 := Gate.rate_nonneg k
  unfold slack
  unfold Gate.decay at one ⊢
  generalize Gate.rate k = r at r0 one
  induction r with
  | bot => exact absurd r0 (by simp)
  | top =>
    rcases hd.eq_or_lt with rfl | hd
    · have : c = c' := by
        have := abs_nonpos_iff.1 (by linarith : |c - c'| ≤ 0)
        linarith
      simp [this]
    · rw [EReal.top_mul_coe_of_pos hd, min_eq_right le_top, EReal.toReal_coe]
      exact one
  | coe r =>
    have r0 : 0 ≤ r := by exact_mod_cast r0
    rw [← EReal.coe_mul, ← EReal.coe_strictMono.monotone.map_min, EReal.toReal_coe]
    refine le_min ?_ one
    simp only [← EReal.coe_neg, ← EReal.coe_mul, Idealize.ShloMosaic.Ideal.exp_coe, EReal.toReal_coe]
    refine (exp_lip ?_ ?_).trans ?_
    · nlinarith
    · nlinarith
    · have e : -r * ((1 - c) / 2) - -r * ((1 - c') / 2) = r * ((c - c') / 2) := by ring
      rw [e, abs_mul, abs_of_nonneg r0, abs_div, abs_two]
      exact mul_le_mul_of_nonneg_left h r0

theorem clip_near (s s' : ℝ) : |Gate.clip s - Gate.clip s'| ≤ |s - s'| / √2048 := by
  have e : |s - s'| / √2048 = |s / √2048 - s' / √2048| := by
    rw [← sub_div, abs_div, abs_of_nonneg (sqrt_nonneg 2048)]
  rw [e, Gate.clip, Gate.clip, min_comm 1, min_comm 1, max_comm (-1), max_comm (-1)]
  exact (abs_inf_sub_inf_le_abs _ _ _).trans (abs_sup_sub_sup_le_abs _ _ _)

variable {n : ℕ} (xr xi : Fin n → ℝ) (t : ℝ)

/-- The interference sum of a row with the exact sine and cosine. -/
def inter (q : Fin n → ℝ) : ℝ :=
  ∑ l, (cos (π * Gate.turn (xr l + xi l) (q l) t) * xr l + sin (π * Gate.turn (xr l + xi l) (q l) t) * xi l)

/-- The size of a row. -/
def size : ℝ := ∑ l, (|xr l| + |xi l|)

theorem size_nonneg : 0 ≤ size xr xi := Finset.sum_nonneg fun _ _ => by positivity

theorem inter_near (q : Fin n → ℝ) : |Gate.inter xr xi t q - inter xr xi t q| ≤ 1 / 1000 * size xr xi := by
  rw [Gate.inter, inter, ← Finset.sum_sub_distrib, size, Finset.mul_sum]
  refine (Finset.abs_sum_le_sum_abs _ _).trans (Finset.sum_le_sum fun l _ => ?_)
  generalize Gate.turn (xr l + xi l) (q l) t = u
  have e : Gate.cosP u * xr l + Gate.sinP u * xi l - (cos (π * u) * xr l + sin (π * u) * xi l)
      = (Gate.cosP u - cos (π * u)) * xr l + (Gate.sinP u - sin (π * u)) * xi l := by ring
  rw [e, mul_add]
  refine (abs_add_le _ _).trans ?_
  rw [abs_mul, abs_mul]
  exact add_le_add (mul_le_mul_of_nonneg_right (cosP_near u) (abs_nonneg _))
    (mul_le_mul_of_nonneg_right (sinP_near u) (abs_nonneg _))

/-- The state angle of a row at a lane, in half turns, with the exact sine and cosine. -/
def state (wt ws : Fin n → EReal) (k : EReal) (l : Fin n) : ℝ :=
  Gate.turn (Gate.decay k (Gate.clip (inter xr xi t fun l => Gate.recip (wt l))) * (xr l + xi l)) (Gate.recip (ws l)) t

/-- How far a row's result may lie from the exact one at a lane. -/
def bound (e : ℝ) (ws : Fin n → EReal) (k : EReal) (l : Fin n) : ℝ :=
  e + slack k (e * size xr xi / √2048 / 2) * (|xr l + xi l| * Gate.recip (ws l))

theorem state_near {e : ℝ} (he : 1 / 1000 ≤ e) (wt ws : Fin n → EReal) (k : EReal) (l : Fin n) :
    |π * Gate.state xr xi t wt ws k l - π * state xr xi t wt ws k l|
      ≤ slack k (e * size xr xi / √2048 / 2) * (|xr l + xi l| * Gate.recip (ws l)) := by
  have hi := inter_near xr xi t fun l => Gate.recip (wt l)
  have hq := (Gate.recip_spec (ws l)).2.1
  rw [Gate.state, state]
  generalize Gate.inter xr xi t _ = s at *
  generalize inter xr xi t _ = s' at *
  have hd := decay_near k (d := e * size xr xi / √2048 / 2) (Gate.clip_le s) (Gate.clip_le s') (by
    have h1 := clip_near s s'
    have h2 : |s - s'| / √2048 ≤ e * size xr xi / √2048 :=
      div_le_div_of_nonneg_right (hi.trans (mul_le_mul_of_nonneg_right he (size_nonneg xr xi))) (sqrt_nonneg _)
    linarith)
  have ex : π * Gate.turn (Gate.decay k (Gate.clip s) * (xr l + xi l)) (Gate.recip (ws l)) t
      - π * Gate.turn (Gate.decay k (Gate.clip s') * (xr l + xi l)) (Gate.recip (ws l)) t
      = (Gate.decay k (Gate.clip s) - Gate.decay k (Gate.clip s')) * ((xr l + xi l) * Gate.recip (ws l)) := by
    unfold Gate.turn
    field_simp
    ring
  rw [ex, abs_mul, abs_mul, abs_of_nonneg hq]
  exact mul_le_mul_of_nonneg_right hd (mul_nonneg (abs_nonneg _) hq)

theorem cos_row {e : ℝ} (he : 1 / 1000 ≤ e) (wt ws : Fin n → EReal) (k : EReal) (l : Fin n) :
    |Gate.cosP (Gate.state xr xi t wt ws k l) - cos (π * state xr xi t wt ws k l)| ≤ bound xr xi e ws k l :=
  (abs_sub_le _ _ _).trans (add_le_add ((cosP_near _).trans he) ((cos_lip _ _).trans (state_near xr xi t he wt ws k l)))

theorem sin_row {e : ℝ} (he : 1 / 1000 ≤ e) (wt ws : Fin n → EReal) (k : EReal) (l : Fin n) :
    |Gate.sinP (Gate.state xr xi t wt ws k l) - sin (π * state xr xi t wt ws k l)| ≤ bound xr xi e ws k l :=
  (abs_sub_le _ _ _).trans (add_le_add ((sinP_near _).trans he) ((sin_lip _ _).trans (state_near xr xi t he wt ws k l)))

end Cert.Near

end
-- ==== Proof.NearHost.lean ====
/- The postcondition's array program at the extended reals, read at a batch row and a lane: the results against the exact
   sine and cosine of the state, within the row's bound. -/
module

public import proofs.«01_k».proof.Post_near_exact
public import proofs.«01_k».proof.Proof.Gen.Post_near_exact
public import proofs.«01_k».proof.Proof.Host
public import proofs.«01_k».proof.Proof.NearRow

@[expose] public section

set_option maxRecDepth 16384

noncomputable section

namespace Cert.NearHost

open Idealize.ShloMosaic Cert Cert.ReferenceIdeal Cert.ReferenceIdeal.Gen Cert.ReferenceIdeal.Read

/-! ## The stages as arrays -/

/-- The cosine and the sine of a sum of two angles. -/
def cosSum (p q : EReal) : EReal := Ideal.cos p * Ideal.cos q - Ideal.sin p * Ideal.sin q
def sinSum (p q : EReal) : EReal := Ideal.cos p * Ideal.sin q + Ideal.sin p * Ideal.cos q

def mag (x : EReal) : EReal := max x (-x)

/-- A sum over the lanes. -/
def total (y : S8192x2048.Idx → EReal) : S8192.Idx → EReal :=
  Host.reduceAdd (F := Ideal) y (constant S_ .f32 0x00000000#32) reducesTo_S8192x2048_S8192_d1 h_S_

/-- A scalar for every row. -/
def everyRow (k : S_.Idx → EReal) : S8192.Idx → EReal := broadcastInDim S8192 ![] bcast_S_S8192 k
/-- One value a row, as a column, and the column over every lane. -/
def column (g : S8192.Idx → EReal) : S8192x1.Idx → EReal := broadcastInDim S8192x1 ![0] bcast_S8192_S8192x1_0 g
def spread (g : S8192x1.Idx → EReal) : S8192x2048.Idx → EReal := broadcastInDim S8192x2048 ![0, 1] bcast_S8192x1_S8192x2048_0_1 g

def rateW (k : EReal) : EReal := mag k + Ideal.ofBits .f32 0x3DCCCCCD#32

def gate (s : S8192.Idx → EReal) (k : S_.Idx → EReal) : S8192.Idx → EReal := fun b =>
  Ideal.exp (everyRow (fun i => -(rateW (k i))) b * Ideal.div (Ideal.ofBits .f32 0x3F800000#32
    - min (Ideal.ofBits .f32 0x3F800000#32) (max (Ideal.ofBits .f32 0xBF800000#32) (Ideal.div (s b) (Ideal.sqrt (Ideal.ofBits .f32 0x45000000#32)))))
      (Ideal.ofBits .f32 0x40000000#32))

def blend (g : S8192.Idx → EReal) (x y : S8192x2048.Idx → EReal) : S8192x2048.Idx → EReal := fun i =>
  spread (column g) i * x i + spread (fun j => Ideal.ofBits .f32 0x3F800000#32 - column g j) i * y i

def offGate (s : S8192.Idx → EReal) (k : S_.Idx → EReal) : S8192.Idx → EReal := fun b =>
  min (everyRow (fun i => rateW (k i)) b * Ideal.div (Ideal.div (Ideal.ofBits .f32 0x3A83126F#32 * s b) (Ideal.sqrt (Ideal.ofBits .f32 0x45000000#32)))
    (Ideal.ofBits .f32 0x40000000#32)) (Ideal.ofBits .f32 0x3F800000#32)

variable (x0 x1 : S8192x2048.Idx → EReal) (x2 : S8192.Idx → EReal) (x3 x4 : S8192x2048.Idx → EReal)
  (x5 x6 x7 x8 : S2048.Idx → EReal) (x9 : S_.Idx → EReal) (x10 x11 : (⟨1, ![4096]⟩ : Shape).Idx → EReal)
  (x12 x13 : S8192x2048.Idx → EReal)

def inter : S8192.Idx → EReal := total fun i =>
  cosSum (val_main_v14 (F := Ideal) x0 x2 x5 x6 i) (val_main_v14 (F := Ideal) x1 x2 x5 x6 i) * x0 i
    + sinSum (val_main_v14 (F := Ideal) x0 x2 x5 x6 i) (val_main_v14 (F := Ideal) x1 x2 x5 x6 i) * x1 i

def phaseReal : S8192x2048.Idx → EReal := val_main_v14 (F := Ideal) (blend (gate (inter x0 x1 x2 x5 x6) x9) x0 x3) x2 x7 x8
def phaseImag : S8192x2048.Idx → EReal := val_main_v14 (F := Ideal) (blend (gate (inter x0 x1 x2 x5 x6) x9) x1 x4) x2 x7 x8

def bound : S8192x2048.Idx → EReal := fun i =>
  Ideal.ofBits .f32 0x3A83126F#32 + spread (column (offGate (total fun i => mag (x0 i) + mag (x1 i)) x9)) i
    * Ideal.div (mag (x0 i + x1 i)) (val_main_v8 (F := Ideal) x7 i)

theorem post_eq : Cert.Post_near_exact.fn (F := Ideal) x0 x1 x2 x3 x4 x5 x6 x7 x8 x9 x10 x11 x12 x13
    = (fun i => Ideal.cmp .ole (mag (x12 i - cosSum (phaseReal x0 x1 x2 x3 x5 x6 x7 x8 x9 i) (phaseImag x0 x1 x2 x4 x5 x6 x7 x8 x9 i))) (bound x0 x1 x7 x9 i),
       fun i => Ideal.cmp .ole (mag (x13 i - sinSum (phaseReal x0 x1 x2 x3 x5 x6 x7 x8 x9 i) (phaseImag x0 x1 x2 x4 x5 x6 x7 x8 x9 i))) (bound x0 x1 x7 x9 i)) := rfl

/-! ## The stages read -/

theorem total_apply (y : S8192x2048.Idx → EReal) (b : Fin 8192) : total y (ix1 b) = ((0 : ℝ) : EReal) + ∑ l : Fin 2048, y (ix2 b l) := by
  unfold total
  simp only [Host.reduceAdd, Ideal.hostReduceAdd_def]
  rw [Ideal.hostReduceAdd_single reducesTo_S8192x2048_S8192_d1 (by decide)]
  refine congrArg₂ (· + ·) Gate.word_zero (Finset.sum_congr rfl fun l _ => congrArg y (eq_ix2 (n0 := 8192) (n1 := 2048) _))

theorem everyRow_apply (k : S_.Idx → EReal) (b : S8192.Idx) : everyRow k b = k ix0 :=
  broadcastInDim_apply _ bcast_S_S8192 k b ix0 (fun a => a.elim0)

theorem column_apply (g : S8192.Idx → EReal) (b : Fin 8192) : column g (ix2 b (0 : Fin 1)) = g (ix1 b) :=
  broadcastInDim_apply _ bcast_S8192_S8192x1_0 g _ (ix1 b) (fun a => match a with
    | ⟨0, _⟩ => by show b.val = if (8192 : Nat) = 1 then 0 else b.val; rw [if_neg (by decide)])

theorem spread_apply (g : S8192x1.Idx → EReal) (b : Fin 8192) (l : Fin 2048) : spread g (ix2 b l) = g (ix2 b (0 : Fin 1)) :=
  broadcastInDim_apply _ bcast_S8192x1_S8192x2048_0_1 g _ (ix2 b (0 : Fin 1)) (fun a => match a with
    | ⟨0, _⟩ => by show b.val = if (8192 : Nat) = 1 then 0 else b.val; rw [if_neg (by decide)]
    | ⟨1, _⟩ => by show 0 = if (1 : Nat) = 1 then 0 else l.val; rw [if_pos rfl])

theorem span_apply (b : Fin 8192) (l : Fin 2048) : val_main_v8 (F := Ideal) x7 (ix2 b l) = Gate.span (x7 (ix1 l)) := by
  rw [val_main_v8_apply, val_main_v7_apply, Host.span_apply, Host.idx_lane]

theorem blend_apply (g : S8192.Idx → EReal) (x y : S8192x2048.Idx → EReal) (b : Fin 8192) (l : Fin 2048) :
    blend g x y (ix2 b l) = Gate.blendH (g (ix1 b)) (x (ix2 b l)) (y (ix2 b l)) := by
  rw [blend, spread_apply, spread_apply, column_apply, Gate.word_one, Gate.blendH]

theorem rateW_eq (k : EReal) : rateW k = Gate.rate k := by rw [rateW, Gate.word_tenth, mag, Gate.rate]

/-- One thousandth as the f32 nearest to it, not below it. -/
def milli : ℝ := 8589935 / 8589934592

theorem word_milli : Ideal.ofBits .f32 0x3A83126F#32 = (milli : EReal) := by
  simp [Ideal.ofBits, Ideal.ieee, -EReal.coe_mul, milli]; norm_num

theorem le_milli : 1 / 1000 ≤ milli := by unfold milli; norm_num

theorem mag_coe (a : ℝ) : mag (a : EReal) = ((|a| : ℝ) : EReal) := by
  rw [mag, ← EReal.coe_neg, ← EReal.coe_strictMono.monotone.map_max, abs]

theorem gate_coe {s : S8192.Idx → EReal} {b : S8192.Idx} {a : ℝ} (h : s b = (a : EReal)) (k : S_.Idx → EReal) :
    gate s k b = (Gate.decay (k ix0) (Gate.clip a) : EReal) := by
  have hs : Real.sqrt 2048 ≠ 0 := (Real.sqrt_pos.mpr (by norm_num)).ne'
  rw [gate, everyRow_apply, rateW_eq, h, Gate.word_one, Gate.word_neg_one, Gate.word_2048, Gate.word_two, Ideal.sqrt_coe, if_neg (by norm_num),
    Ideal.div_coe hs, ← EReal.coe_mul, mul_one_div, Gate.coe_clip, ← EReal.coe_sub, Ideal.div_coe two_ne_zero, ← EReal.coe_mul, mul_one_div,
    (Gate.decay_spec _ (Gate.clip_le _)).1]

theorem offGate_coe {s : S8192.Idx → EReal} {b : S8192.Idx} {a : ℝ} (h : s b = (a : EReal)) (ha : 0 ≤ a) (k : S_.Idx → EReal) :
    offGate s k b = (Near.slack (k ix0) (milli * a / Real.sqrt 2048 / 2) : EReal) := by
  have hs : Real.sqrt 2048 ≠ 0 := (Real.sqrt_pos.mpr (by norm_num)).ne'
  have hm := le_milli
  rw [offGate, everyRow_apply, rateW_eq, h, Gate.word_one, Gate.word_2048, Gate.word_two, word_milli, Ideal.sqrt_coe, if_neg (by norm_num),
    ← EReal.coe_mul, Ideal.div_coe hs, ← EReal.coe_mul, mul_one_div, Ideal.div_coe two_ne_zero, ← EReal.coe_mul, mul_one_div]
  exact (Near.slack_spec _ (div_nonneg (div_nonneg (mul_nonneg (by linarith) ha) (Real.sqrt_nonneg _)) zero_le_two)).1

theorem cosSum_coe (p q : ℝ) : cosSum (p : EReal) (q : EReal) = (Real.cos (p + q) : EReal) := by
  rw [cosSum, Real.cos_add]
  simp only [Ideal.cos_coe, Ideal.sin_coe, ← EReal.coe_mul, ← EReal.coe_sub]

theorem sinSum_coe (p q : ℝ) : sinSum (p : EReal) (q : EReal) = (Real.sin (p + q) : EReal) := by
  rw [sinSum, Real.sin_add, add_comm (Real.sin p * _)]
  simp only [Ideal.cos_coe, Ideal.sin_coe, ← EReal.coe_mul, ← EReal.coe_add]

theorem phaseH_coe (x t : ℝ) (w : EReal) :
    Gate.phaseH (x : EReal) w ((0 : ℝ) : EReal) (t : EReal) = ((x * Gate.recip w + t * Gate.phi : ℝ) : EReal) := by
  rw [Gate.phaseH, Gate.div_span]
  simp only [← EReal.coe_mul, ← EReal.coe_add, add_zero]

/-- Two phases together are the turn of the two signals. -/
theorem turn_eq (x y q t : ℝ) : x * q + t * Gate.phi + (y * q + t * Gate.phi) = Real.pi * Gate.turn (x + y) q t := by
  have := Real.pi_ne_zero
  unfold Gate.turn
  field_simp
  ring

/-- A row in range: its signals and its time are reals, its memories and the biases zero. -/
structure RowIs (b : Fin 8192) (xr xi : Fin 2048 → ℝ) (t : ℝ) : Prop where
  signal_real : ∀ l, x0 (ix2 b l) = (xr l : EReal)
  signal_imag : ∀ l, x1 (ix2 b l) = (xi l : EReal)
  time : x2 (ix1 b) = (t : EReal)
  memory_real : ∀ l, x3 (ix2 b l) = ((0 : ℝ) : EReal)
  memory_imag : ∀ l, x4 (ix2 b l) = ((0 : ℝ) : EReal)
  bias_trigger : ∀ l, x6 (ix1 l) = ((0 : ℝ) : EReal)
  bias_state : ∀ l, x8 (ix1 l) = ((0 : ℝ) : EReal)

variable {x0 x1 x2 x3 x4 x6 x8} {b : Fin 8192} {xr xi : Fin 2048 → ℝ} {t : ℝ} (h : RowIs x0 x1 x2 x3 x4 x6 x8 b xr xi t)
include h

theorem inter_coe : inter x0 x1 x2 x5 x6 (ix1 b) = (Near.inter xr xi t (fun l => Gate.recip (x5 (ix1 l))) : EReal) := by
  rw [inter, total_apply, Near.inter, ← zero_add (∑ l, (_ : ℝ)), EReal.coe_add, ← Gate.coe_sum]
  refine congrArg _ (Finset.sum_congr rfl fun l _ => ?_)
  rw [Host.phase_apply, Host.phase_apply, h.signal_real, h.signal_imag, h.time, h.bias_trigger, phaseH_coe, phaseH_coe, cosSum_coe, sinSum_coe,
    turn_eq, ← EReal.coe_mul, ← EReal.coe_mul, ← EReal.coe_add]

theorem phases_coe (l : Fin 2048) : ∃ p q : ℝ, phaseReal x0 x1 x2 x3 x5 x6 x7 x8 x9 (ix2 b l) = (p : EReal)
    ∧ phaseImag x0 x1 x2 x4 x5 x6 x7 x8 x9 (ix2 b l) = (q : EReal)
    ∧ p + q = Real.pi * Near.state xr xi t (fun l => x5 (ix1 l)) (fun l => x7 (ix1 l)) (x9 ix0) l := by
  have e := gate_coe (inter_coe x5 h) x9
  generalize hg : Gate.decay (x9 ix0) (Gate.clip (Near.inter xr xi t fun l => Gate.recip (x5 (ix1 l)))) = g at e
  refine ⟨g * xr l * Gate.recip (x7 (ix1 l)) + t * Gate.phi, g * xi l * Gate.recip (x7 (ix1 l)) + t * Gate.phi, ?_, ?_, ?_⟩
  · rw [phaseReal, Host.phase_apply, blend_apply, e, h.signal_real, h.memory_real, h.time, h.bias_state, Gate.blendH_coe, phaseH_coe]
  · rw [phaseImag, Host.phase_apply, blend_apply, e, h.signal_imag, h.memory_imag, h.time, h.bias_state, Gate.blendH_coe, phaseH_coe]
  · rw [turn_eq, ← mul_add, ← hg]; rfl

theorem bound_coe (l : Fin 2048) :
    bound x0 x1 x7 x9 (ix2 b l) = (Near.bound xr xi milli (fun l => x7 (ix1 l)) (x9 ix0) l : EReal) := by
  have e : total (fun i => mag (x0 i) + mag (x1 i)) (ix1 b) = (Near.size xr xi : EReal) := by
    rw [total_apply, Near.size, ← zero_add (∑ l, (_ : ℝ)), EReal.coe_add, ← Gate.coe_sum]
    refine congrArg _ (Finset.sum_congr rfl fun l _ => ?_)
    rw [h.signal_real, h.signal_imag, mag_coe, mag_coe, ← EReal.coe_add]
  rw [bound, spread_apply, column_apply, offGate_coe e (Near.size_nonneg xr xi), span_apply, Gate.div_span, h.signal_real, h.signal_imag,
    ← EReal.coe_add, mag_coe, word_milli, ← EReal.coe_mul, ← EReal.coe_mul, ← EReal.coe_add, Near.bound]

omit h in
/-- A comparison of two reals that holds. -/
theorem cmp_one {a c e : ℝ} (h : |a - c| ≤ e) : Ideal.cmp .ole (mag ((a : EReal) - (c : EReal))) (e : EReal) = 1#1 := by
  rw [← EReal.coe_sub, mag_coe, Ideal.cmp, decide_eq_true (EReal.coe_le_coe_iff.2 h)]
  rfl

/-- The two comparisons at a lane hold of the kernel's two results there. -/
theorem post_row (l : Fin 2048)
    (h12 : x12 (ix2 b l) = (Gate.cosP (Gate.state xr xi t (fun l => x5 (ix1 l)) (fun l => x7 (ix1 l)) (x9 ix0) l) : EReal))
    (h13 : x13 (ix2 b l) = (Gate.sinP (Gate.state xr xi t (fun l => x5 (ix1 l)) (fun l => x7 (ix1 l)) (x9 ix0) l) : EReal)) :
    (Cert.Post_near_exact.fn (F := Ideal) x0 x1 x2 x3 x4 x5 x6 x7 x8 x9 x10 x11 x12 x13).1 (ix2 b l) = 1#1
    ∧ (Cert.Post_near_exact.fn (F := Ideal) x0 x1 x2 x3 x4 x5 x6 x7 x8 x9 x10 x11 x12 x13).2 (ix2 b l) = 1#1 := by
  obtain ⟨p, q, hp, hq, e⟩ := phases_coe x5 x7 x9 h l
  rw [post_eq]
  dsimp only
  rw [hp, hq, h12, h13, bound_coe x7 x9 h l, cosSum_coe, sinSum_coe, e]
  exact ⟨cmp_one (Near.cos_row xr xi t le_milli _ _ _ l), cmp_one (Near.sin_row xr xi t le_milli _ _ _ l)⟩

end Cert.NearHost

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_in_range
public import proofs.«01_k».proof.Proof.Gen.Post_near_exact

public import proofs.«01_k».proof.Proof.Range
public import proofs.«01_k».proof.Proof.NearHost

public import Idealize.ShloMosaic.Adequacy
public import Idealize.ShloMosaic.Lib.Quiescent
public import Idealize.ShloMosaic.Init

@[expose] public section

noncomputable section

namespace Cert.Proof

open Idealize.ShloMosaic Idealize.ShloMosaic.TcCoe Idealize.SL.Sem

/-- The three constants the idealized kernel names. -/
theorem preserves : Cert.preserves_Kernel_KernelIdeal :=
  ⟨IdealRules.named_const.statement Cert.KernelIdeal.κ "inv_pi" .f32 0x3EA2F983#32 _ rfl,
   IdealRules.named_const.statement Cert.KernelIdeal.κ "two_phi_over_pi" .f32 0x3F83D96A#32 _ rfl,
   IdealRules.named_const.statement Cert.KernelIdeal.κ "inv_scale" .f32 0x3CB504F3#32 _ rfl⟩

/-- The reference runs to the end, its arguments as they were and every counter at zero. -/
theorem reference_frame : Cert.quiescent_ReferenceIdeal := fun m ρ _ =>
  (θ_run _ _ _).mono (fun r h => ⟨fun c => (h c).2.2, sem_eq_zero_of_no_sems (by decide) r.2⟩) (Cert.ReferenceIdeal.Value.run m ρ)

/-- In range, the two results of the kernel are those of the reference. -/
theorem results {m : (ℓ : Loc Cert.KernelIdeal.nD Cert.KernelIdeal.τ Cert.KernelIdeal.sig) → Buf (Elt Ideal) ℓ} (c : Dev Cert.KernelIdeal.nD)
    {x0 x1 x3 x4 : Cert.Pre_in_range.S8192x2048.Idx → EReal} {x2 : Cert.Pre_in_range.S8192.Idx → EReal}
    {x5 x6 x7 x8 : Cert.Pre_in_range.S2048.Idx → EReal} {x9 : Cert.Pre_in_range.S_.Idx → EReal}
    (h : Cert.Range.InRange x0 x1 x2 x3 x4 x6 x8) (h0 : x0 = m ((c.tc : Thread Cert.KernelIdeal.nD Cert.KernelIdeal.τ).loc Cert.KernelIdeal.main_arg0)) (h1 : x1 = m ((c.tc : Thread Cert.KernelIdeal.nD Cert.KernelIdeal.τ).loc Cert.KernelIdeal.main_arg1)) (h2 : x2 = m ((c.tc : Thread Cert.KernelIdeal.nD Cert.KernelIdeal.τ).loc Cert.KernelIdeal.main_arg2))
    (h5 : x5 = m ((c.tc : Thread Cert.KernelIdeal.nD Cert.KernelIdeal.τ).loc Cert.KernelIdeal.main_arg5)) (h7 : x7 = m ((c.tc : Thread Cert.KernelIdeal.nD Cert.KernelIdeal.τ).loc Cert.KernelIdeal.main_arg7)) (h9 : x9 = m ((c.tc : Thread Cert.KernelIdeal.nD Cert.KernelIdeal.τ).loc Cert.KernelIdeal.main_arg9)) :
    Cert.ReferenceIdeal.Read.val_main_v160 (F := Ideal) x0 x1 x2 x3 x4 x5 x6 x7 x8 x9 = Cert.KernelIdeal.Arrays.realArray m c
    ∧ Cert.ReferenceIdeal.Read.val_main_v191 (F := Ideal) x0 x1 x2 x3 x4 x5 x6 x7 x8 x9 = Cert.KernelIdeal.Arrays.imagArray m c := by
  subst h0 h1 h2 h5 h7 h9
  rw [Cert.ReferenceIdeal.Host.real_value, Cert.ReferenceIdeal.Host.imag_value]
  constructor
  · funext y
    obtain ⟨b, l, rfl⟩ : ∃ (b : Fin 8192) (l : Fin 2048), y = ix2 b l := ⟨_, _, eq_ix2 (n0 := 8192) (n1 := 2048) y⟩
    obtain ⟨xr, xi, t, _, _, _, hk, hh⟩ := Cert.Range.rows _ _ _ h b l
    exact hh.1.trans hk.1.symm
  · funext y
    obtain ⟨b, l, rfl⟩ : ∃ (b : Fin 8192) (l : Fin 2048), y = ix2 b l := ⟨_, _, eq_ix2 (n0 := 8192) (n1 := 2048) y⟩
    obtain ⟨xr, xi, t, _, _, _, hk, hh⟩ := Cert.Range.rows _ _ _ h b l
    exact hh.2.trans hk.2.symm

theorem algebraic : Cert.algebraic_KernelIdeal_ReferenceIdeal_pre_in_range := by
  intro m ρ m' ρ' hpre heq
  refine ⟨Cert.KernelIdeal.Arrays.realArray m, Cert.KernelIdeal.Arrays.imagArray m, ?_, ?_⟩
  · refine (θ_run _ _ _).mono (fun r h c => ?_) (Cert.KernelIdeal.Value.run_blocks m ρ)
    obtain ⟨h6, h7, hargs⟩ := h c
    exact ⟨h6.trans (Cert.KernelIdeal.Arrays.final_real m c), h7.trans (Cert.KernelIdeal.Arrays.final_imag m c), hargs⟩
  · refine (θ_run _ _ _).mono (fun r h c => ?_) (Cert.ReferenceIdeal.Value.run m' ρ')
    obtain ⟨h160, h191, hargs⟩ := h c
    obtain ⟨e0, e1, e2, e3, e4, e5, e6, e7, e8, e9, _, _⟩ := heq c
    have hr := Cert.Range.of_pre hpre c
    rw [← e0, ← e1, ← e2, ← e3, ← e4, ← e6, ← e8] at hr
    obtain ⟨a, b⟩ := results c hr e0 e1 e2 e5 e7 e9
    exact ⟨h160.trans ((Cert.ReferenceIdeal.Read.val_main_v160_eq _).trans a), h191.trans ((Cert.ReferenceIdeal.Read.val_main_v191_eq _).trans b), hargs⟩

/-- In range, at a batch row and a lane, both comparisons of the postcondition hold of the kernel's results. -/
theorem near_row {m : (ℓ : Loc Cert.KernelIdeal.nD Cert.KernelIdeal.τ Cert.KernelIdeal.sig) → Buf (Elt Ideal) ℓ} (c : Dev Cert.KernelIdeal.nD)
    {x0 x1 x3 x4 : Cert.Pre_in_range.S8192x2048.Idx → EReal} {x2 : Cert.Pre_in_range.S8192.Idx → EReal}
    {x5 x6 x7 x8 : Cert.Pre_in_range.S2048.Idx → EReal} {x9 : Cert.Pre_in_range.S_.Idx → EReal}
    (x10 x11 : (⟨1, ![4096]⟩ : Shape).Idx → EReal)
    (h : Cert.Range.InRange x0 x1 x2 x3 x4 x6 x8) (h0 : x0 = m ((c.tc : Thread Cert.KernelIdeal.nD Cert.KernelIdeal.τ).loc Cert.KernelIdeal.main_arg0)) (h1 : x1 = m ((c.tc : Thread Cert.KernelIdeal.nD Cert.KernelIdeal.τ).loc Cert.KernelIdeal.main_arg1)) (h2 : x2 = m ((c.tc : Thread Cert.KernelIdeal.nD Cert.KernelIdeal.τ).loc Cert.KernelIdeal.main_arg2))
    (h5 : x5 = m ((c.tc : Thread Cert.KernelIdeal.nD Cert.KernelIdeal.τ).loc Cert.KernelIdeal.main_arg5)) (h7 : x7 = m ((c.tc : Thread Cert.KernelIdeal.nD Cert.KernelIdeal.τ).loc Cert.KernelIdeal.main_arg7)) (h9 : x9 = m ((c.tc : Thread Cert.KernelIdeal.nD Cert.KernelIdeal.τ).loc Cert.KernelIdeal.main_arg9))
    (b : Fin 8192) (l : Fin 2048) :
    (Cert.Post_near_exact.fn (F := Ideal) x0 x1 x2 x3 x4 x5 x6 x7 x8 x9 x10 x11 (Cert.KernelIdeal.Arrays.realArray m c) (Cert.KernelIdeal.Arrays.imagArray m c)).1 (ix2 b l) = 1#1
    ∧ (Cert.Post_near_exact.fn (F := Ideal) x0 x1 x2 x3 x4 x5 x6 x7 x8 x9 x10 x11 (Cert.KernelIdeal.Arrays.realArray m c) (Cert.KernelIdeal.Arrays.imagArray m c)).2 (ix2 b l) = 1#1 := by
  subst h0 h1 h2 h5 h7 h9
  obtain ⟨xr, xi, t, hr, hi, ht, hk, _⟩ := Cert.Range.rows _ _ _ h b l
  exact Cert.NearHost.post_row _ _ _ _ _ _ _ ⟨hr, hi, ht, fun _ => h.memory_real _, fun _ => h.memory_imag _, fun _ => h.bias_trigger _, fun _ => h.bias_state _⟩
    l hk.1 hk.2

theorem near_exact : Cert.holds_KernelIdeal_near_exact_pre_in_range := by
  intro m ρ hpre
  refine (θ_run _ _ _).mono (fun r h c => ?_) (Cert.KernelIdeal.Value.run_blocks m ρ)
  obtain ⟨h6, h7, a0, a1, a2, a3, a4, a5, a6, a7, a8, a9, a10, a11⟩ := h c
  have hr := Cert.Range.of_pre hpre c
  rw [h6.trans (Cert.KernelIdeal.Arrays.final_real m c), h7.trans (Cert.KernelIdeal.Arrays.final_imag m c)]
  have key := near_row c (m ((c.tc : Thread Cert.KernelIdeal.nD Cert.KernelIdeal.τ).loc Cert.KernelIdeal.main_arg10)) (m ((c.tc : Thread Cert.KernelIdeal.nD Cert.KernelIdeal.τ).loc Cert.KernelIdeal.main_arg11)) hr rfl rfl rfl rfl rfl rfl
  refine ⟨a0, a1, a2, a3, a4, a5, a6, a7, a8, a9, a10, a11, funext fun y => ?_, funext fun y => ?_⟩
  · obtain ⟨b, l, rfl⟩ : ∃ (b : Fin 8192) (l : Fin 2048), y = ix2 b l := ⟨_, _, eq_ix2 (n0 := 8192) (n1 := 2048) y⟩
    exact (key b l).1
  · obtain ⟨b, l, rfl⟩ : ∃ (b : Fin 8192) (l : Fin 2048), y = ix2 b l := ⟨_, _, eq_ix2 (n0 := 8192) (n1 := 2048) y⟩
    exact (key b l).2

theorem claim : Cert.Claim :=
  ⟨Cert.Kernel.Gen.facts, Cert.KernelIdeal.Gen.facts, Cert.ReferenceIdeal.Gen.facts, Cert.Pre_in_range.Gen.facts,
    Cert.Post_near_exact.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    preserves,
    algebraic,
    near_exact⟩

end Cert.Proof

end
